-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x4608 : Shape := ⟨3, ![96, 1, 4608]⟩
abbrev S4608x9216 : Shape := ⟨2, ![4608, 9216]⟩
abbrev S9216 : Shape := ⟨1, ![9216]⟩
abbrev S1x9216 : Shape := ⟨2, ![1, 9216]⟩
abbrev S96x4608 : Shape := ⟨2, ![96, 4608]⟩
abbrev S96x1 : Shape := ⟨2, ![96, 1]⟩
abbrev S4608x512 : Shape := ⟨2, ![4608, 512]⟩
abbrev S1x512 : Shape := ⟨2, ![1, 512]⟩
abbrev S96 : Shape := ⟨1, ![96]⟩
abbrev S96x512 : Shape := ⟨2, ![96, 512]⟩

abbrev nBuf : Space → Nat
  | .hbm => 9
  | .vmem => 14
  | .smem => 0
  | _ => 0

abbrev bufTy : (tb : Table) → Fin (tcTables nBuf tb) → BufTy
  | .hbm, ⟨0, _⟩ => ⟨S96x1x4608, .bf16⟩
  | .hbm, ⟨1, _⟩ => ⟨S4608x9216, .fp8e4m3⟩
  | .hbm, ⟨2, _⟩ => ⟨S9216, .f32⟩
  | .hbm, ⟨3, _⟩ => ⟨S1x9216, .f32⟩
  | .hbm, ⟨4, _⟩ => ⟨S96x4608, .bf16⟩
  | .hbm, ⟨5, _⟩ => ⟨S96x1, .f32⟩
  | .hbm, ⟨6, _⟩ => ⟨S96x4608, .fp8e4m3⟩
  | .hbm, ⟨7, _⟩ => ⟨S96x4608, .fp8e4m3⟩
  | .hbm, ⟨8, _⟩ => ⟨S96x1, .f32⟩
  | .local _ .vmem, ⟨0, _⟩ => ⟨S96x4608, .bf16⟩
  | .local _ .vmem, ⟨1, _⟩ => ⟨S4608x512, .fp8e4m3⟩
  | .local _ .vmem, ⟨2, _⟩ => ⟨S4608x512, .fp8e4m3⟩
  | .local _ .vmem, ⟨3, _⟩ => ⟨S4608x512, .fp8e4m3⟩
  | .local _ .vmem, ⟨4, _⟩ => ⟨S4608x512, .fp8e4m3⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S96x1, .f32⟩
  | .local _ .vmem, ⟨10, _⟩ => ⟨S96x4608, .fp8e4m3⟩
  | .local _ .vmem, ⟨11, _⟩ => ⟨S96x4608, .fp8e4m3⟩
  | .local _ .vmem, ⟨12, _⟩ => ⟨S96x1, .f32⟩
  | .local _ .vmem, ⟨13, _⟩ => ⟨S96x4608, .f32⟩
  | _, _ => ⟨S96x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![9], ![false]⟩

def k0_mult1 (i : grid0.Coords) : BitVec 32 :=
  let arg0 : BitVec 32 := BitVec.ofNat 32 (i 0).val
  let c512_i32 : BitVec 32 := 512#32
  let v26 : BitVec 32 := Scalar.muli arg0 c512_i32
  v26
def k0_off1 (i : grid0.Coords) : Fin 2 → Nat :=
  let c0_13 : Index := 0#32
  let arg0 : BitVec 32 := BitVec.ofNat 32 (i 0).val
  let c512_i32 : BitVec 32 := 512#32
  let v26 : BitVec 32 := Scalar.muli arg0 c512_i32
  let v27 : BitVec 32 := v26
  let v28 : Index := Scalar.indexCast v27
  ![0, v28.toNat]
def k0_cond2 (i : grid0.Coords) : BitVec 1 :=
  let arg0 : BitVec 32 := BitVec.ofNat 32 (i 0).val
  let c8_i32 : BitVec 32 := 8#32
  let v32 : BitVec 1 := Scalar.cmpi .eq arg0 c8_i32
  let v33 : BitVec 32 := Scalar.extui v32
  let c0_i32_14 : BitVec 32 := 0#32
  let v34 : BitVec 1 := Scalar.cmpi .ne v33 c0_i32_14
  v34

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4608x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4608x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S96x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x4608 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x4608 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S96x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S96x1x4608 : Shape := ⟨3, ![96, 1, 4608]⟩
abbrev S4608x9216 : Shape := ⟨2, ![4608, 9216]⟩
abbrev S9216 : Shape := ⟨1, ![9216]⟩
abbrev S96x4608 : Shape := ⟨2, ![96, 4608]⟩
abbrev S1x9216 : Shape := ⟨2, ![1, 9216]⟩
abbrev S96x1 : Shape := ⟨2, ![96, 1]⟩
abbrev S96 : Shape := ⟨1, ![96]⟩
abbrev S96x9216 : Shape := ⟨2, ![96, 9216]⟩

abbrev nBuf : Space → Nat
  | .hbm => 9
  | .vmem => 7
  | .smem => 0
  | _ => 0

abbrev bufTy : (tb : Table) → Fin (tcTables nBuf tb) → BufTy
  | .hbm, ⟨0, _⟩ => ⟨S96x1x4608, .bf16⟩
  | .hbm, ⟨1, _⟩ => ⟨S4608x9216, .fp8e4m3⟩
  | .hbm, ⟨2, _⟩ => ⟨S9216, .f32⟩
  | .hbm, ⟨3, _⟩ => ⟨S96x4608, .bf16⟩
  | .hbm, ⟨4, _⟩ => ⟨S1x9216, .f32⟩
  | .hbm, ⟨5, _⟩ => ⟨S96x1, .f32⟩
  | .hbm, ⟨6, _⟩ => ⟨S96x4608, .fp8e4m3⟩
  | .hbm, ⟨7, _⟩ => ⟨S96x4608, .fp8e4m3⟩
  | .hbm, ⟨8, _⟩ => ⟨S96x1, .f32⟩
  | .local _ .vmem, ⟨0, _⟩ => ⟨S96x4608, .bf16⟩
  | .local _ .vmem, ⟨1, _⟩ => ⟨S4608x9216, .fp8e4m3⟩
  | .local _ .vmem, ⟨2, _⟩ => ⟨S1x9216, .f32⟩
  | .local _ .vmem, ⟨3, _⟩ => ⟨S96x1, .f32⟩
  | .local _ .vmem, ⟨4, _⟩ => ⟨S96x4608, .fp8e4m3⟩
  | .local _ .vmem, ⟨5, _⟩ => ⟨S96x4608, .fp8e4m3⟩
  | .local _ .vmem, ⟨6, _⟩ => ⟨S96x1, .f32⟩
  | _, _ => ⟨S96x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S96x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x9216 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x4608 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x4608 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.BodyCommon.lean ====
/-
  What the three runs of the kernel's body share: when each of its two conditions holds, the memrefs the pipeline hands the
  body, and the names of the values it computes (the quantised `x`, one block of `h`, the quantised `h`).
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, k0_cond1, e0]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 9 = 8 :=
  (fun t => by
    have ht : t.val < 9 := Nat.lt_of_lt_of_eq t.isLt N_0
    have e0 : (grid0.coords t 0).val = t.val / 1 % 9 := Pipeline.Grid.coords_val t 0 (by decide) rfl
    simp only [cond0_1, k0_cond2, e0]
    word_cmp
   : ∀ t : Fin grid0.N, cond0_1 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S96x4608 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4608x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4608x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S96x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x4608 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S96x4608 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S96x1 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S96x4608 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The values the body computes -/

theorem hz : (![0, 0] : Fin 2 → Nat) = fun _ => 0 := funext fun a => by fin_cases a <;> rfl

/-- The exponent field the search finds for the rows of `x`, and the two conditions that make a scale's exponent 0. -/
def xField (x : Vec F S96x4608 .bf16) : IVec S96x1 32 := k0_pay14 (k0_pay10 x) (k0_pay11 x) (k0_pay12 x) k0_pay13
def xEdge (x : Vec F S96x4608 .bf16) : IVec S96x1 1 := k0_pay15 (k0_pay10 x) (k0_pay11 x) (k0_pay12 x) k0_pay13
def xZero (x : Vec F S96x4608 .bf16) : IVec S96x1 1 := k0_pay16 (k0_pay9 x)
/-- The codes and the scales of the quantised `x`. -/
def xCodes (x : Vec F S96x4608 .bf16) : Vec F S96x4608 .fp8e4m3 := k0_pay2 (k0_pay8 x) (xField x) (xEdge x) (xZero x)
def xScales (x : Vec F S96x4608 .bf16) : Vec F S96x1 .f32 := k0_pay3 (F := F) (xField x) (xEdge x) (xZero x)
/-- One block of `h` from the quantised `x`, the gate's and the up projection's columns and their scales. -/
def hBlock (xc : Vec F S96x4608 .fp8e4m3) (xs : Vec F S96x1 .f32) (wg wu : Vec F S4608x512 .fp8e4m3) (sg su : Vec F S1x512 .f32) : Vec F S96x512 .f32 :=
  k0_pay4 xc xs wg wu sg su
/-- The same two values of the rows of `h`, and its codes and scales. -/
def hField (h : Vec F S96x4608 .f32) : IVec S96x1 32 := k0_pay20 (k0_pay18 h) (k0_pay19 h)
def hSpecial (h : Vec F S96x4608 .f32) : IVec S96x1 1 := k0_pay21 (k0_pay17 h) (k0_pay18 h) (k0_pay19 h)
def hCodes (h : Vec F S96x4608 .f32) : Vec F S96x4608 .fp8e4m3 := k0_pay6 h (hField h) (hSpecial h) 126#32
def hScales (h : Vec F S96x4608 .f32) : Vec F S96x1 .f32 := k0_pay7 (F := F) (hField h) (hSpecial h) 126#32

/-- The columns of the scratch a point stores. -/
abbrev hRect (i : grid0.Coords) : Rect S96x4608 := Rect.unit (s := S96x4608) (k0_off1 i) S96x512.size (k0_off1_inb i)
/-- The scratch after a point's store: the block in the point's columns, every other column as before. -/
def Stored (i : grid0.Coords) (b : Vec F S96x512 .f32) (d d' : Vec F S96x4608 .f32) : Prop :=
  (∀ x : S96x512.Idx, d' ((hRect i).emb x) = b x) ∧ ∀ y, y ∉ (hRect i).set → d' y = d y

/-- One store through a point's columns leaves them at the block and the rest as it was. -/
theorem stored_writes (i : grid0.Coords) (b : Vec F S96x512 .f32) (a : Memref sig .tc .vmem S96x4608 .f32) (f : a.view.ty.Contents (Elt F)) :
    Stored i b (a.view.read (Elt F) f) (a.view.read (Elt F) (a.view.writes (Elt F) f [⟨hRect i, b⟩])) := by
  constructor
  · intro x
    exact View.read_writes_cons_emb a.view f (hRect i) b [] x
  · intro y hy
    exact View.read_writes_cons_miss a.view f (⟨hRect i, b⟩ : View.Piece (Elt F) S96x4608 .f32) [] y hy

/-- The same over a whole buffer at `d`, for the payload under any name. -/
theorem stored_store (i : grid0.Coords) (a : Memref sig .tc .vmem S96x4608 .f32) (ha : a.IsWhole) (d : Vec F S96x4608 .f32) (w b : Vec F S96x512 .f32) (hw : w = b) :
    Stored i b d (a.view.read (Elt F) (a.view.writes (Elt F) (ha.unread d) [⟨hRect i, w⟩])) := by
  subst hw
  have h := stored_writes i w a (ha.unread d)
  rwa [ha.read_unread] at h

/-- A whole load of a buffer at `x` reads `x`. -/
theorem load_whole {S : Shape} {e : EltTy} {sp : Space} (a : Memref sig .tc sp S e) (ha : a.IsWhole) (x : Vec F S e) {off : Fin S.rank → Nat} (h : off = fun _ => 0) (inb : ∀ k, off k + S.size k ≤ S.size k) :
    a.view.readAt (Elt F) (Rect.unit off S.size inb).toLoadRect (ha.unread x) = x := by
  rw [View.readAt_eq_ld, ha.read_unread, View.ld_unit_zero h]

/-- What a whole store leaves reads its payload. -/
theorem read_store_whole {S : Shape} {e : EltTy} {sp : Space} (a : Memref sig .tc sp S e) (f : a.view.ty.Contents (Elt F)) {off : Fin S.rank → Nat} (h : off = fun _ => 0) (inb : ∀ k, off k + S.size k ≤ S.size k) (w : Vec F S e) :
    a.view.read (Elt F) (a.view.writes (Elt F) f [⟨Rect.unit off S.size inb, w⟩]) = w := by
  rw [View.read_writes_eq_canon a.view f _ fun y => ⟨_, List.mem_cons_self, View.mem_set_unit_zero h inb y⟩, View.canon_unit_zero h]

/-- A whole load reads what the buffer reads. -/
theorem load_read {S : Shape} {e : EltTy} {sp : Space} (a : Memref sig .tc sp S e) (f : a.view.ty.Contents (Elt F)) {off : Fin S.rank → Nat} (h : off = fun _ => 0) (inb : ∀ k, off k + S.size k ≤ S.size k) :
    a.view.readAt (Elt F) (Rect.unit off S.size inb).toLoadRect f = a.view.read (Elt F) f := by
  rw [View.readAt_eq_ld, View.ld_unit_zero h]

end Cert.KernelIdeal.Body

end
-- ==== Proof.RunFirst.lean ====
/-
  The first point: the body quantises `x` into its two windows and stores the first block of `h`.
-/
module

public import proofs.«01_k».proof.Proof.BodyCommon

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first point: the body quantises `x` into its two windows and stores the first block of `h`. -/
theorem runA (c : Dev nD) (i : grid0.Coords) (arg1 : Memref sig .tc .vmem S96x4608 .bf16) (harg1 : arg1.IsWhole) (arg2 : Memref sig .tc .vmem S4608x512 .fp8e4m3) (harg2 : arg2.IsWhole) (arg3 : Memref sig .tc .vmem S4608x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S96x1 .f32) (harg6 : arg6.IsWhole) (arg7 : Memref sig .tc .vmem S96x4608 .fp8e4m3) (harg7 : arg7.IsWhole) (arg8 : Memref sig .tc .vmem S96x4608 .fp8e4m3) (harg8 : arg8.IsWhole) (arg9 : Memref sig .tc .vmem S96x1 .f32) (harg9 : arg9.IsWhole) (arg10 : Memref sig .tc .vmem S96x4608 .f32) (harg10 : arg10.IsWhole) (hc0 : cond0_0 i) (hc1 : ¬cond0_1 i)
    (x0 : Vec F S96x4608 .bf16) (x1 : Vec F S4608x512 .fp8e4m3) (x2 : Vec F S4608x512 .fp8e4m3) (x3 : Vec F S1x512 .f32) (x4 : Vec F S1x512 .f32) (o5 : Vec F S96x1 .f32) (o6 : Vec F S96x4608 .fp8e4m3) (d : Vec F S96x4608 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare o5 ∗ owns (c : Thread nD τ) arg7 fullShare o6 ∗ (∃ d, owns (c : Thread nD τ) arg8 fullShare d) ∗ (∃ d, owns (c : Thread nD τ) arg9 fullShare d) ∗ owns (c : Thread nD τ) arg10 fullShare d
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare o5 ∗ owns (c : Thread nD τ) arg7 fullShare o6 ∗ owns (c : Thread nD τ) arg8 fullShare (xCodes x0) ∗ owns (c : Thread nD τ) arg9 fullShare (xScales x0) ∗ (∃ d', ⌜Stored i (hBlock (xCodes x0) (xScales x0) x1 x2 x3 x4) d d'⌝ ∗ owns (c : Thread nD τ) arg10 fullShare d')) -∗ K ⟨⟩))
          ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10) K := by
    intro E K
    simp only [cc0_swiglu_gate_up_fp8_eq_skeleton]; unfold cc0_swiglu_gate_up_fp8_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg10.eq_unread hfs
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      sl_unfold_words
      refine (read_store_whole arg8 f7 hz _ _).trans ?_
      rw [load_whole arg1 harg1 x0 hz]
      rfl
    isplitl [H8]
    · iexists _; isplitr; swap; · iexact H8
      ipureintro
      sl_unfold_words
      refine (read_store_whole arg9 f8 hz _ _).trans ?_
      rw [load_whole arg1 harg1 x0 hz]
      rfl
    iexists _
    isplitr
    swap
    · iexists _; isplitr; swap; · iexact HS
      ipureintro; rfl
    ipureintro
    refine stored_store i arg10 harg10 d _ _ ?_
    sl_unfold_words
    rw [load_whole arg2 harg2 x1 hz, load_whole arg3 harg3 x2 hz, load_whole arg4 harg4 x3 hz, load_whole arg5 harg5 x4 hz]
    rw [load_whole arg1 harg1 x0 hz, View.readCov_unit_zero arg8.view hz, View.readCov_unit_zero arg9.view hz]
    rfl

end Cert.KernelIdeal.Body

end
-- ==== Proof.RunMiddle.lean ====
/-
  A middle point: the body reads the quantised `x` back and stores one block of `h`.
-/
module

public import proofs.«01_k».proof.Proof.RunFirst

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A middle point: the body reads the quantised `x` back and stores one block of `h`. -/
theorem runB (c : Dev nD) (i : grid0.Coords) (arg1 : Memref sig .tc .vmem S96x4608 .bf16) (harg1 : arg1.IsWhole) (arg2 : Memref sig .tc .vmem S4608x512 .fp8e4m3) (harg2 : arg2.IsWhole) (arg3 : Memref sig .tc .vmem S4608x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S96x1 .f32) (harg6 : arg6.IsWhole) (arg7 : Memref sig .tc .vmem S96x4608 .fp8e4m3) (harg7 : arg7.IsWhole) (arg8 : Memref sig .tc .vmem S96x4608 .fp8e4m3) (harg8 : arg8.IsWhole) (arg9 : Memref sig .tc .vmem S96x1 .f32) (harg9 : arg9.IsWhole) (arg10 : Memref sig .tc .vmem S96x4608 .f32) (harg10 : arg10.IsWhole) (hc0 : ¬cond0_0 i) (hc1 : ¬cond0_1 i)
    (x0 : Vec F S96x4608 .bf16) (x1 : Vec F S4608x512 .fp8e4m3) (x2 : Vec F S4608x512 .fp8e4m3) (x3 : Vec F S1x512 .f32) (x4 : Vec F S1x512 .f32) (xc : Vec F S96x4608 .fp8e4m3) (xs : Vec F S96x1 .f32) (o5 : Vec F S96x1 .f32) (o6 : Vec F S96x4608 .fp8e4m3) (d : Vec F S96x4608 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare o5 ∗ owns (c : Thread nD τ) arg7 fullShare o6 ∗ owns (c : Thread nD τ) arg8 fullShare xc ∗ owns (c : Thread nD τ) arg9 fullShare xs ∗ owns (c : Thread nD τ) arg10 fullShare d
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare o5 ∗ owns (c : Thread nD τ) arg7 fullShare o6 ∗ owns (c : Thread nD τ) arg8 fullShare xc ∗ owns (c : Thread nD τ) arg9 fullShare xs ∗ (∃ d', ⌜Stored i (hBlock xc xs x1 x2 x3 x4) d d'⌝ ∗ owns (c : Thread nD τ) arg10 fullShare d')) -∗ K ⟨⟩))
          ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10) K := by
    intro E K
    simp only [cc0_swiglu_gate_up_fp8_eq_skeleton]; unfold cc0_swiglu_gate_up_fp8_skel

    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg10.eq_unread hfs
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _
    isplitr
    swap
    · iexists _; isplitr; swap; · iexact HS
      ipureintro; rfl
    ipureintro
    refine stored_store i arg10 harg10 d _ _ ?_
    rw [load_whole arg2 harg2 x1 hz, load_whole arg3 harg3 x2 hz, load_whole arg4 harg4 x3 hz, load_whole arg5 harg5 x4 hz, load_whole arg8 harg8 xc hz, load_whole arg9 harg9 xs hz]
    rfl

end Cert.KernelIdeal.Body

end
-- ==== Proof.RunLast.lean ====
/-
  The last point: the body stores the last block of `h` and quantises the whole of it.
-/
module

public import proofs.«01_k».proof.Proof.RunMiddle

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The last point: the body stores the last block of `h` and quantises the whole of it. -/
theorem runC (c : Dev nD) (i : grid0.Coords) (arg1 : Memref sig .tc .vmem S96x4608 .bf16) (harg1 : arg1.IsWhole) (arg2 : Memref sig .tc .vmem S4608x512 .fp8e4m3) (harg2 : arg2.IsWhole) (arg3 : Memref sig .tc .vmem S4608x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S96x1 .f32) (harg6 : arg6.IsWhole) (arg7 : Memref sig .tc .vmem S96x4608 .fp8e4m3) (harg7 : arg7.IsWhole) (arg8 : Memref sig .tc .vmem S96x4608 .fp8e4m3) (harg8 : arg8.IsWhole) (arg9 : Memref sig .tc .vmem S96x1 .f32) (harg9 : arg9.IsWhole) (arg10 : Memref sig .tc .vmem S96x4608 .f32) (harg10 : arg10.IsWhole) (hc0 : ¬cond0_0 i) (hc1 : cond0_1 i)
    (x0 : Vec F S96x4608 .bf16) (x1 : Vec F S4608x512 .fp8e4m3) (x2 : Vec F S4608x512 .fp8e4m3) (x3 : Vec F S1x512 .f32) (x4 : Vec F S1x512 .f32) (xc : Vec F S96x4608 .fp8e4m3) (xs : Vec F S96x1 .f32) (d : Vec F S96x4608 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xc ∗ owns (c : Thread nD τ) arg9 fullShare xs ∗ owns (c : Thread nD τ) arg10 fullShare d
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare xc ∗ owns (c : Thread nD τ) arg9 fullShare xs ∗ (∃ d', ⌜Stored i (hBlock xc xs x1 x2 x3 x4) d d'⌝ ∗ owns (c : Thread nD τ) arg6 fullShare (hScales d') ∗ owns (c : Thread nD τ) arg7 fullShare (hCodes d') ∗ owns (c : Thread nD τ) arg10 fullShare d')) -∗ K ⟨⟩))
          ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10) K := by
    intro E K
    simp only [cc0_swiglu_gate_up_fp8_eq_skeleton]; unfold cc0_swiglu_gate_up_fp8_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hf8
    obtain rfl := harg10.eq_unread hfs
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H7]
    · iexists _; isplitr; · ipureintro; exact harg8.read_unread _
      iexact H7
    isplitl [H8]
    · iexists _; isplitr; · ipureintro; exact harg9.read_unread _
      iexact H8
    have hs : Stored i (hBlock xc xs x1 x2 x3 x4) d (arg10.view.read (Elt F) (arg10.view.writes (Elt F) (harg10.unread d)
      (runC.sl.HS_1 c i arg2 harg2 arg3 harg3 arg4 harg4 arg5 harg5 arg8 harg8 arg9 harg9 x1 x2 x3 x4 xc xs))) := by
      sl_unfold_words
      refine stored_store i arg10 harg10 d _ _ ?_
      rw [load_whole arg2 harg2 x1 hz, load_whole arg3 harg3 x2 hz, load_whole arg4 harg4 x3 hz, load_whole arg5 harg5 x4 hz, load_whole arg8 harg8 xc hz, load_whole arg9 harg9 xs hz]
      rfl
    iexists _
    isplitr
    · ipureintro; exact hs
    isplitl [H5]
    · iexists _; isplitr; swap; · iexact H5
      ipureintro
      sl_unfold_words
      refine (read_store_whole arg6 f5 hz _ _).trans ?_
      rw [load_read arg10 _ hz]
      rfl
    isplitl [H6]
    · iexists _; isplitr; swap; · iexact H6
      ipureintro
      sl_unfold_words
      refine (read_store_whole arg7 f6 hz _ _).trans ?_
      rw [load_read arg10 _ hz]
      rfl
    iexists _; isplitr; swap; · iexact HS
    ipureintro; rfl

end Cert.KernelIdeal.Body

end
-- ==== Proof.Dats.lean ====
/-
  The kernel's proof data: the block of `h` each point stores, the whole of `h`, what each window's buffer and the scratch
  hold between the points.
-/
module

public import proofs.«01_k».proof.Proof.RunFirst
public import proofs.«01_k».proof.Proof.RunMiddle
public import proofs.«01_k».proof.Proof.RunLast
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values over the launch memory -/

theorem N9 : cfg0.N = 9 := N_0
/-- The first point, and the point whose block holds column `j`. -/
def t₀ : Fin cfg0.N := ⟨0, by rw [N9]; decide⟩
def ptOf (j : Fin 4608) : Fin cfg0.N := ⟨j.val / 512, by rw [N9]; have := j.isLt; omega⟩
def colOf (j : Fin 4608) : Fin 512 := ⟨j.val % 512, Nat.mod_lt _ (by decide)⟩

/-- The codes and scales of `x`. -/
def XC (c : Dev nD) : Vec F S96x4608 .fp8e4m3 := xCodes (iblk m c 0 t₀)
def XS (c : Dev nD) : Vec F S96x1 .f32 := xScales (iblk m c 0 t₀)
/-- The block of `h` point `t` stores. -/
def HB (c : Dev nD) (t : Fin cfg0.N) : Vec F S96x512 .f32 := hBlock (XC m c) (XS m c) (iblk m c 1 t) (iblk m c 2 t) (iblk m c 3 t) (iblk m c 4 t)
/-- The whole of `h`, column by column from the blocks. -/
def H (c : Dev nD) : Vec F S96x4608 .f32 := fun y => HB m c (ptOf (y 1)) (ix2 (n0 := 96) (n1 := 512) (y 0) (colOf (y 1)))

/-- The columns of the points before the `n`-th hold `h`. -/
def Filled (c : Dev nD) (n : Nat) (d : Vec F S96x4608 .f32) : Prop := ∀ y : S96x4608.Idx, (y 1).val < 512 * n → d y = H m c y

/-- A point's coordinate is its number. -/
theorem coord_val (t : Fin cfg0.N) : ((grid0.coords t) 0).val = t.val :=
  (by decide +kernel : ∀ t : Fin grid0.N, ((grid0.coords t) 0).val = t.val) t

/-- `h` at the place a point's block index is stored is the block there. -/
theorem H_emb (c : Dev nD) (t : Fin cfg0.N) (x : S96x512.Idx) : H m c ((hRect (grid0.coords t)).emb x) = HB m c t x := by
  have hN : t.val < 9 := lt_of_lt_of_eq t.isLt N9
  have hx := (x 1).isLt
  have h1 : (((hRect (grid0.coords t)).emb x) 1).val = 512 * t.val + (x 1).val := by
    rw [Rect.emb_apply]
    show k0_off1 (grid0.coords t) 1 + 1 * (x 1).val = _
    rw [k0_off1_eq, one_mul]
    show 512 * ((grid0.coords t) 0).val + _ = _
    rw [coord_val]
  have h0 : (((hRect (grid0.coords t)).emb x) 0).val = (x 0).val := by
    rw [Rect.emb_apply]
    show k0_off1 (grid0.coords t) 0 + 1 * (x 0).val = _
    rw [k0_off1_eq, one_mul]
    show 0 + _ = _
    rw [zero_add]
  have hx' : (x 1).val < 512 := hx
  unfold H
  have hp : ptOf (((hRect (grid0.coords t)).emb x) 1) = t := Fin.ext (by
    show (((hRect (grid0.coords t)).emb x) 1).val / 512 = t.val
    rw [h1]; omega)
  rw [hp]
  congr 1
  exact Shape.idx_ext₂ h0 (by
    show (((hRect (grid0.coords t)).emb x) 1).val % 512 = (x 1).val
    rw [h1]; omega)

/-- A point's store fills its columns. -/
theorem Filled.step (c : Dev nD) (t : Fin cfg0.N) (d d' : Vec F S96x4608 .f32) (hd : Filled m c t.val d) (hs : Stored (grid0.coords t) (HB m c t) d d') :
    Filled m c (t.val + 1) d' := by
  intro y hy
  by_cases hm : y ∈ (hRect (grid0.coords t)).set
  · rw [← Rect.map_emb_univ, Finset.mem_map] at hm
    obtain ⟨x, -, rfl⟩ := hm
    rw [hs.1, H_emb]
  · rw [hs.2 y hm]
    refine hd y ?_
    by_contra hlt
    refine hm (Rect.mem_set_unit.mpr ?_)
    intro a
    rw [k0_off1_eq, coord_val]
    match a with
    | ⟨0, _⟩ => exact ⟨Nat.zero_le _, by show (y 0).val < 0 + 96; have : (y 0).val < 96 := (y 0).isLt; omega⟩
    | ⟨1, _⟩ => exact ⟨by show 512 * t.val ≤ (y 1).val; omega, by show (y 1).val < 512 * t.val + 512; omega⟩

theorem Filled.zero (c : Dev nD) (d : Vec F S96x4608 .f32) : Filled m c 0 d := fun y hy => absurd hy (by omega)

/-- Every column filled is the whole of `h`. -/
theorem Filled.all (c : Dev nD) (d : Vec F S96x4608 .f32) (hd : Filled m c 9 d) : d = H m c :=
  funext fun y => hd y (by have : (y 1).val < 4608 := (y 1).isLt; omega)

/-! ## The pipeline's proof data -/

/-- What holds between the points: the scratch, the columns of the points before filled, and the generator register. -/
def inv (c : Dev nD) (n : Nat) : sProp 𝕄 :=
  iprop((∃ d, ⌜Filled m c n d⌝ ∗ owns (c : Thread nD τ) scM0_0 fullShare d) ∗ (∃ r, prngReg c r))

/-- The proof data: the inputs' buffers at their blocks, the outputs' at the codes and scales of `h` and of `x`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hScales (H m c)
    | ⟨6, _⟩ => hCodes (H m c)
    | ⟨7, _⟩ => XC m c
    | ⟨8, _⟩ => XS m c
  Φ t := inv m c t.val
  q w := Pipeline.shareOf spec0 w
  owed _ := 0

theorem A_eq (c : Dev nD) (w : Fin cfg0.W) : (dats m 0 c).A w = V m c (Pipeline.arrRef spec0 w) := by
  dsimp only [dats]

theorem Φ_castSucc (c : Dev nD) (t : Fin cfg0.N) : (dats m 0 c).Φ t.castSucc = inv m c t.val := by
  dsimp only [dats]; exact congrArg (inv m c) rfl
theorem Φ_succ (c : Dev nD) (t : Fin cfg0.N) : (dats m 0 c).Φ t.succ = inv m c (t.val + 1) := by
  dsimp only [dats]; exact congrArg (inv m c) (Fin.val_succ t)

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = hScales (H m c) := by dsimp only [dats]
theorem after0_6 (c : Dev nD) (t : Fin cfg0.N) : (dats m 0 c).after 6 t = hCodes (H m c) := by dsimp only [dats]
theorem after0_7 (c : Dev nD) (t : Fin cfg0.N) : (dats m 0 c).after 7 t = XC m c := by dsimp only [dats]
theorem after0_8 (c : Dev nD) (t : Fin cfg0.N) : (dats m 0 c).after 8 t = XS m c := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Which points leave which output alone -/

theorem idle0_5 (t : Fin cfg0.N) : cfg0.idle 5 (grid0.coords t) = decide (t.val ≠ 8) :=
  (by decide +kernel : ∀ t : Fin grid0.N, idle0 5 (grid0.coords t) = decide (t.val ≠ 8)) t
theorem idle0_6 (t : Fin cfg0.N) : cfg0.idle 6 (grid0.coords t) = decide (t.val ≠ 8) :=
  (by decide +kernel : ∀ t : Fin grid0.N, idle0 6 (grid0.coords t) = decide (t.val ≠ 8)) t
theorem idle0_7 (t : Fin cfg0.N) : cfg0.idle 7 (grid0.coords t) = decide (t.val ≠ 0) :=
  (by decide +kernel : ∀ t : Fin grid0.N, idle0 7 (grid0.coords t) = decide (t.val ≠ 0)) t
theorem idle0_8 (t : Fin cfg0.N) : cfg0.idle 8 (grid0.coords t) = decide (t.val ≠ 0) :=
  (by decide +kernel : ∀ t : Fin grid0.N, idle0 8 (grid0.coords t) = decide (t.val ≠ 0)) t

theorem flush_false (w : Fin cfg0.W) (t : Fin cfg0.N) (hw : (cfg0.win w).flush t = true ↔ t.val % 9 = 8) (h : ¬ t.val % 9 = 8) : (cfg0.win w).flush t = false :=
  Bool.eq_false_iff.mpr fun e => h (hw.mp e)

/-- After the first point, the windows of `x`'s codes and scales hold them. -/
theorem before0_7 (c : Dev nD) (d) : ∀ (n : Nat) (t : Fin cfg0.N), t.val = n + 1 → (dats m 0 c).before 7 t d = XC m c := by
  intro n
  induction n with
  | zero =>
    intro t ht
    have hN : t.val < 9 := lt_of_lt_of_eq t.isLt N9
    rw [(dats m 0 c).before_of_pos 7 t (by omega) ((cfg0.win 7).fetch_out rfl t), flush_false 7 _ (flush0_7 _) (by show ¬ (t.val - 1) % 9 = 8; omega), if_neg Bool.false_ne_true]
    unfold Dat.left
    rw [idle0_7, decide_eq_false (by show ¬ (t.val - 1) ≠ 0; omega)]
    exact after0_7 m c _
  | succ n ih =>
    intro t ht
    have hN : t.val < 9 := lt_of_lt_of_eq t.isLt N9
    rw [(dats m 0 c).before_of_pos 7 t (by omega) ((cfg0.win 7).fetch_out rfl t), flush_false 7 _ (flush0_7 _) (by show ¬ (t.val - 1) % 9 = 8; omega), if_neg Bool.false_ne_true]
    unfold Dat.left
    rw [idle0_7, decide_eq_true (by show (t.val - 1) ≠ 0; omega)]
    exact ih _ (by show t.val - 1 = _; omega)
theorem before0_8 (c : Dev nD) (d) : ∀ (n : Nat) (t : Fin cfg0.N), t.val = n + 1 → (dats m 0 c).before 8 t d = XS m c := by
  intro n
  induction n with
  | zero =>
    intro t ht
    have hN : t.val < 9 := lt_of_lt_of_eq t.isLt N9
    rw [(dats m 0 c).before_of_pos 8 t (by omega) ((cfg0.win 8).fetch_out rfl t), flush_false 8 _ (flush0_8 _) (by show ¬ (t.val - 1) % 9 = 8; omega), if_neg Bool.false_ne_true]
    unfold Dat.left
    rw [idle0_8, decide_eq_false (by show ¬ (t.val - 1) ≠ 0; omega)]
    exact after0_8 m c _
  | succ n ih =>
    intro t ht
    have hN : t.val < 9 := lt_of_lt_of_eq t.isLt N9
    rw [(dats m 0 c).before_of_pos 8 t (by omega) ((cfg0.win 8).fetch_out rfl t), flush_false 8 _ (flush0_8 _) (by show ¬ (t.val - 1) % 9 = 8; omega), if_neg Bool.false_ne_true]
    unfold Dat.left
    rw [idle0_8, decide_eq_true (by show (t.val - 1) ≠ 0; omega)]
    exact ih _ (by show t.val - 1 = _; omega)

/-! ## What the obligation asks of each output at each kind of point -/

theorem leaves_found (c : Dev nD) (w : Fin cfg0.W) (t : Fin cfg0.N) (hi : cfg0.idle w (grid0.coords t) = true) (hf : (cfg0.win w).flush t = false) :
    (dats m 0 c).leavesExact w t = iprop(∃ d, owns (c : Thread nD τ) ((cfg0.win w).stage (cfg0.slots t w)) fullShare ((dats m 0 c).before w t d)) :=
  (dats m 0 c).leavesExact_idle w t hi hf

theorem leaves_live (c : Dev nD) (w : Fin cfg0.W) (t : Fin cfg0.N) (hi : cfg0.idle w (grid0.coords t) = false) :
    (dats m 0 c).leavesExact w t = owns (c : Thread nD τ) ((cfg0.win w).stage (cfg0.slots t w)) fullShare ((dats m 0 c).after w t) := by
  unfold Dat.leavesExact; rw [hi]

theorem leaves_flushed (c : Dev nD) (w : Fin cfg0.W) (t : Fin cfg0.N) (hf : (cfg0.win w).flush t = true) :
    (dats m 0 c).leavesExact w t = owns (c : Thread nD τ) ((cfg0.win w).stage (cfg0.slots t w)) fullShare ((dats m 0 c).after w t) := by
  unfold Dat.leavesExact
  rw [hf]
  cases cfg0.idle w (cfg0.grid.coords t) <;> rfl

end Cert.KernelIdeal.Body

end
-- ==== Proof.Obligation.lean ====
/-
  The kernel's body obligation at every point, and the run of the whole kernel to the arrays its proof data name.
-/
module

public import proofs.«01_k».proof.Proof.Dats
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 2400000 in
/-- The body at any point, by the kind of point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [Φ_castSucc, Φ_succ, show (dats m 0 c).owesAt () t.succ = (dats m 0 c).owesAt () t.castSucc from rfl]
  unfold inv
  have hN : t.val < 9 := lt_of_lt_of_eq t.isLt N9
  rw [leaves_live m c 0 t rfl, after0_0]
  rw [leaves_live m c 1 t rfl, after0_1]
  rw [leaves_live m c 2 t rfl, after0_2]
  rw [leaves_live m c 3 t rfl, after0_3]
  rw [leaves_live m c 4 t rfl, after0_4]
  by_cases h0 : t.val % 9 = 0
  · have h1 : ¬ t.val % 9 = 8 := by omega
    rw [leaves_found m c 5 t ((idle0_5 t).trans (decide_eq_true (by omega))) (flush_false 5 t (flush0_5 t) (by omega))]
    rw [leaves_found m c 6 t ((idle0_6 t).trans (decide_eq_true (by omega))) (flush_false 6 t (flush0_6 t) (by omega))]
    rw [leaves_live m c 7 t ((idle0_7 t).trans (decide_eq_false (by omega))), after0_7]
    rw [leaves_live m c 8 t ((idle0_8 t).trans (decide_eq_false (by omega))), after0_8]
    obtain rfl : t = t₀ := Fin.ext (by show t.val = 0; omega)
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t₀) _ _ _ _ _ _ _ _ _ _ _ _ _ _ _ _ _ _ _ _ ((hcond0_0 t₀).mpr h0) (fun h => h1 ((hcond0_1 t₀).mp h)) (iblk m c 0 t₀) (iblk m c 1 t₀) (iblk m c 2 t₀) (iblk m c 3 t₀) (iblk m c 4 t₀) ((dats m 0 c).before 5 t₀ d5) ((dats m 0 c).before 6 t₀ d6) d Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, ⟨%d', %hs, HS⟩⟩
    have hf := Filled.step m c t₀ d d' hd hs
    isplitl [HS Hg]
    · isplitl [HS]
      · iexists _; isplitr; · ipureintro; exact hf
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    iexact H8
  · by_cases h1 : t.val % 9 = 8
    · rw [leaves_flushed m c 5 t ((flush0_5 t).mpr h1), after0_5]
      rw [leaves_flushed m c 6 t ((flush0_6 t).mpr h1), after0_6]
      rw [leaves_flushed m c 7 t ((flush0_7 t).mpr h1), after0_7]
      rw [leaves_flushed m c 8 t ((flush0_8 t).mpr h1), after0_8]
      have hb7 := fun d => before0_7 m c d (t.val - 1) t (by omega)
      have hb8 := fun d => before0_8 m c d (t.val - 1) t (by omega)
      simp only [hb7, hb8]
      iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runC c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (XC m c) (XS m c) d Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [H8]; · iexact H8
      isplitl [HS]; · iexact HS
      iintro ⟨H0, H1, H2, H3, H4, H7, H8, ⟨%d', %hs, H5, H6, HS⟩⟩
      have hf := Filled.step m c t d d' hd hs
      have e : t.val + 1 = 9 := by omega
      rw [e] at hf
      obtain rfl := Filled.all m c d' hf
      rw [← e] at hf
      isplitl [HS Hg]
      · isplitl [HS]
        · iexists _; isplitr; · ipureintro; exact hf
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [leaves_found m c 5 t ((idle0_5 t).trans (decide_eq_true (by omega))) (flush_false 5 t (flush0_5 t) (by omega))]
      rw [leaves_found m c 6 t ((idle0_6 t).trans (decide_eq_true (by omega))) (flush_false 6 t (flush0_6 t) (by omega))]
      rw [leaves_found m c 7 t ((idle0_7 t).trans (decide_eq_true (by omega))) (flush_false 7 t (flush0_7 t) (by omega))]
      rw [leaves_found m c 8 t ((idle0_8 t).trans (decide_eq_true (by omega))) (flush_false 8 t (flush0_8 t) (by omega))]
      have hb7 := fun d => before0_7 m c d (t.val - 1) t (by omega)
      have hb8 := fun d => before0_8 m c d (t.val - 1) t (by omega)
      simp only [hb7, hb8]
      iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runB c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (XC m c) (XS m c) ((dats m 0 c).before 5 t d5) ((dats m 0 c).before 6 t d6) d Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%d', %hs, HS⟩⟩
      have hf := Filled.step m c t d d' hd hs
      isplitl [HS Hg]
      · isplitl [HS]
        · iexists _; isplitr; · ipureintro; exact hf
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists default; iexact H7
      iexists default; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_in (c : Dev nD) : Pipeline.ΦA spec0 c ⊢ (dats m 0 c).Φ 0 := by
  rw [PhiA0_eq, show (dats m 0 c).Φ 0 = inv m c 0 from by dsimp only [dats]; exact congrArg (inv m c) rfl]
  unfold inv
  iintro ⟨⟨%d, HS⟩, Hg⟩
  isplitl [HS]
  · iexists d; isplitr; · ipureintro; exact Filled.zero m c d
    iexact HS
  iexact Hg

theorem inv_out (c : Dev nD) : (dats m 0 c).Φ (Fin.last cfg0.N) ⊢ Pipeline.ΦA spec0 c := by
  rw [PhiA0_eq, show (dats m 0 c).Φ (Fin.last cfg0.N) = inv m c cfg0.N from by dsimp only [dats]; exact congrArg (inv m c) rfl]
  unfold inv
  iintro ⟨⟨%d, -, HS⟩, Hg⟩
  isplitl [HS]
  · iexists d; iexact HS
  iexact Hg

-- the launch theorem's implicit arguments are found by unifying its conclusion with this one
set_option backward.isDefEq.respectTransparency.types false in
/-- THE LAUNCH: every execution ends with each windowed array at what the proof data name and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := inv_in m) (hout := inv_out m)

end Cert.KernelIdeal.Body

end
-- ==== Proof.KernelValue.lean ====
/-
  What the four result arrays hold after the kernel, and the blocks of the inputs as parts of the launched arrays.
-/
module

public import proofs.«01_k».proof.Proof.Obligation
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last point. -/
def t₈ : Fin cfg0.N := ⟨8, by rw [N9]; decide⟩

theorem eq_t₈ (t : Fin cfg0.N) (h : t.val % 9 = 8) : t = t₈ := by
  have hN : t.val < 9 := lt_of_lt_of_eq t.isLt N9
  exact Fin.ext (by show t.val = 8; omega)

/-- Result 0: the one write-back of window 5, at the last point, covers its array. -/
abbrev result0 (c : Dev nD) : Buf (Elt F) ((c : Thread nD τ).loc main_v2_0) := hScales (H m c)

theorem flushed5 (c : Dev nD) (t : Fin cfg0.N) (hf : (cfg0.win 5).flush t = true) :
    (dats m 0 c).flushed 5 t = ((cfg0.win 5).blk t).view.read (Elt F) (result0 m c) := by
  obtain rfl := eq_t₈ t ((flush0_5 t).mp hf)
  show (cfg0.win 5).cut (grid0.coords t₈) ((dats m 0 c).after 5 t₈) = _
  rw [after0_5]
  have hz' : (fun a => win0_5.index t₈ a * main_v2_0.ty.shape.size a) = fun _ => 0 := funext fun a => by fin_cases a <;> decide +kernel
  exact (Memref.read_access_unit_zero (Elt F) main_v2_0 hz' (fun a => by rw [congrFun hz' a]; simp) (result0 m c)).symm

theorem final5 (c : Dev nD) : (dats m 0 c).arrAt 5 cfg0.N = result0 m c :=
  (dats m 0 c).arrAt_eq_of_cover 5 (result0 m c) (flushed5 m c) fun i =>
    ⟨t₈, (flush0_5 t₈).mpr rfl, by
      show i ∈ ((View.whole main_v2_0).slice (win0_5.rect t₈)).set
      rw [View.set_slice_whole, Rect.mem_set_unit]
      intro a
      have h0 : (i 0 : Nat) < 96 := (i 0).isLt
      have h1 : (i 1 : Nat) < 1 := (i 1).isLt
      match a with
      | ⟨0, _⟩ => show win0_5.index t₈ 0 * win0_5.size 0 ≤ (i 0 : Nat) ∧ (i 0 : Nat) < win0_5.index t₈ 0 * win0_5.size 0 + win0_5.xsize (grid0.coords t₈) 0
                  rw [show win0_5.index t₈ 0 * win0_5.size 0 = 0 from by decide +kernel, show win0_5.xsize (grid0.coords t₈) 0 = 96 from by decide +kernel]; omega
      | ⟨1, _⟩ => show win0_5.index t₈ 1 * win0_5.size 1 ≤ (i 1 : Nat) ∧ (i 1 : Nat) < win0_5.index t₈ 1 * win0_5.size 1 + win0_5.xsize (grid0.coords t₈) 1
                  rw [show win0_5.index t₈ 1 * win0_5.size 1 = 0 from by decide +kernel, show win0_5.xsize (grid0.coords t₈) 1 = 1 from by decide +kernel]; omega⟩

/-- Result 1: the one write-back of window 6, at the last point, covers its array. -/
abbrev result1 (c : Dev nD) : Buf (Elt F) ((c : Thread nD τ).loc main_v2_1) := hCodes (H m c)

theorem flushed6 (c : Dev nD) (t : Fin cfg0.N) (hf : (cfg0.win 6).flush t = true) :
    (dats m 0 c).flushed 6 t = ((cfg0.win 6).blk t).view.read (Elt F) (result1 m c) := by
  obtain rfl := eq_t₈ t ((flush0_6 t).mp hf)
  show (cfg0.win 6).cut (grid0.coords t₈) ((dats m 0 c).after 6 t₈) = _
  rw [after0_6]
  have hz' : (fun a => win0_6.index t₈ a * main_v2_1.ty.shape.size a) = fun _ => 0 := funext fun a => by fin_cases a <;> decide +kernel
  exact (Memref.read_access_unit_zero (Elt F) main_v2_1 hz' (fun a => by rw [congrFun hz' a]; simp) (result1 m c)).symm

theorem final6 (c : Dev nD) : (dats m 0 c).arrAt 6 cfg0.N = result1 m c :=
  (dats m 0 c).arrAt_eq_of_cover 6 (result1 m c) (flushed6 m c) fun i =>
    ⟨t₈, (flush0_6 t₈).mpr rfl, by
      show i ∈ ((View.whole main_v2_1).slice (win0_6.rect t₈)).set
      rw [View.set_slice_whole, Rect.mem_set_unit]
      intro a
      have h0 : (i 0 : Nat) < 96 := (i 0).isLt
      have h1 : (i 1 : Nat) < 4608 := (i 1).isLt
      match a with
      | ⟨0, _⟩ => show win0_6.index t₈ 0 * win0_6.size 0 ≤ (i 0 : Nat) ∧ (i 0 : Nat) < win0_6.index t₈ 0 * win0_6.size 0 + win0_6.xsize (grid0.coords t₈) 0
                  rw [show win0_6.index t₈ 0 * win0_6.size 0 = 0 from by decide +kernel, show win0_6.xsize (grid0.coords t₈) 0 = 96 from by decide +kernel]; omega
      | ⟨1, _⟩ => show win0_6.index t₈ 1 * win0_6.size 1 ≤ (i 1 : Nat) ∧ (i 1 : Nat) < win0_6.index t₈ 1 * win0_6.size 1 + win0_6.xsize (grid0.coords t₈) 1
                  rw [show win0_6.index t₈ 1 * win0_6.size 1 = 0 from by decide +kernel, show win0_6.xsize (grid0.coords t₈) 1 = 4608 from by decide +kernel]; omega⟩

/-- Result 2: the one write-back of window 7, at the last point, covers its array. -/
abbrev result2 (c : Dev nD) : Buf (Elt F) ((c : Thread nD τ).loc main_v2_2) := XC m c

theorem flushed7 (c : Dev nD) (t : Fin cfg0.N) (hf : (cfg0.win 7).flush t = true) :
    (dats m 0 c).flushed 7 t = ((cfg0.win 7).blk t).view.read (Elt F) (result2 m c) := by
  obtain rfl := eq_t₈ t ((flush0_7 t).mp hf)
  show (cfg0.win 7).cut (grid0.coords t₈) ((dats m 0 c).after 7 t₈) = _
  rw [after0_7]
  have hz' : (fun a => win0_7.index t₈ a * main_v2_2.ty.shape.size a) = fun _ => 0 := funext fun a => by fin_cases a <;> decide +kernel
  exact (Memref.read_access_unit_zero (Elt F) main_v2_2 hz' (fun a => by rw [congrFun hz' a]; simp) (result2 m c)).symm

theorem final7 (c : Dev nD) : (dats m 0 c).arrAt 7 cfg0.N = result2 m c :=
  (dats m 0 c).arrAt_eq_of_cover 7 (result2 m c) (flushed7 m c) fun i =>
    ⟨t₈, (flush0_7 t₈).mpr rfl, by
      show i ∈ ((View.whole main_v2_2).slice (win0_7.rect t₈)).set
      rw [View.set_slice_whole, Rect.mem_set_unit]
      intro a
      have h0 : (i 0 : Nat) < 96 := (i 0).isLt
      have h1 : (i 1 : Nat) < 4608 := (i 1).isLt
      match a with
      | ⟨0, _⟩ => show win0_7.index t₈ 0 * win0_7.size 0 ≤ (i 0 : Nat) ∧ (i 0 : Nat) < win0_7.index t₈ 0 * win0_7.size 0 + win0_7.xsize (grid0.coords t₈) 0
                  rw [show win0_7.index t₈ 0 * win0_7.size 0 = 0 from by decide +kernel, show win0_7.xsize (grid0.coords t₈) 0 = 96 from by decide +kernel]; omega
      | ⟨1, _⟩ => show win0_7.index t₈ 1 * win0_7.size 1 ≤ (i 1 : Nat) ∧ (i 1 : Nat) < win0_7.index t₈ 1 * win0_7.size 1 + win0_7.xsize (grid0.coords t₈) 1
                  rw [show win0_7.index t₈ 1 * win0_7.size 1 = 0 from by decide +kernel, show win0_7.xsize (grid0.coords t₈) 1 = 4608 from by decide +kernel]; omega⟩

/-- Result 3: the one write-back of window 8, at the last point, covers its array. -/
abbrev result3 (c : Dev nD) : Buf (Elt F) ((c : Thread nD τ).loc main_v2_3) := XS m c

theorem flushed8 (c : Dev nD) (t : Fin cfg0.N) (hf : (cfg0.win 8).flush t = true) :
    (dats m 0 c).flushed 8 t = ((cfg0.win 8).blk t).view.read (Elt F) (result3 m c) := by
  obtain rfl := eq_t₈ t ((flush0_8 t).mp hf)
  show (cfg0.win 8).cut (grid0.coords t₈) ((dats m 0 c).after 8 t₈) = _
  rw [after0_8]
  have hz' : (fun a => win0_8.index t₈ a * main_v2_3.ty.shape.size a) = fun _ => 0 := funext fun a => by fin_cases a <;> decide +kernel
  exact (Memref.read_access_unit_zero (Elt F) main_v2_3 hz' (fun a => by rw [congrFun hz' a]; simp) (result3 m c)).symm

theorem final8 (c : Dev nD) : (dats m 0 c).arrAt 8 cfg0.N = result3 m c :=
  (dats m 0 c).arrAt_eq_of_cover 8 (result3 m c) (flushed8 m c) fun i =>
    ⟨t₈, (flush0_8 t₈).mpr rfl, by
      show i ∈ ((View.whole main_v2_3).slice (win0_8.rect t₈)).set
      rw [View.set_slice_whole, Rect.mem_set_unit]
      intro a
      have h0 : (i 0 : Nat) < 96 := (i 0).isLt
      have h1 : (i 1 : Nat) < 1 := (i 1).isLt
      match a with
      | ⟨0, _⟩ => show win0_8.index t₈ 0 * win0_8.size 0 ≤ (i 0 : Nat) ∧ (i 0 : Nat) < win0_8.index t₈ 0 * win0_8.size 0 + win0_8.xsize (grid0.coords t₈) 0
                  rw [show win0_8.index t₈ 0 * win0_8.size 0 = 0 from by decide +kernel, show win0_8.xsize (grid0.coords t₈) 0 = 96 from by decide +kernel]; omega
      | ⟨1, _⟩ => show win0_8.index t₈ 1 * win0_8.size 1 ≤ (i 1 : Nat) ∧ (i 1 : Nat) < win0_8.index t₈ 1 * win0_8.size 1 + win0_8.xsize (grid0.coords t₈) 1
                  rw [show win0_8.index t₈ 1 * win0_8.size 1 = 0 from by decide +kernel, show win0_8.xsize (grid0.coords t₈) 1 = 1 from by decide +kernel]; omega⟩

/-- THE RUN: the four results, the arguments unchanged, every semaphore at zero. -/
theorem run : θ_run defs (onTc (τ := τ) (main (F := F))) ⟨m, fun _ => 0, ρ⟩ fun r => (∀ c : Dev nD,
      r.2.mem ((c : Thread nD τ).loc main_v2_0) = result0 m c
      ∧ r.2.mem ((c : Thread nD τ).loc main_v2_1) = result1 m c
      ∧ r.2.mem ((c : Thread nD τ).loc main_v2_2) = result2 m c
      ∧ r.2.mem ((c : Thread nD τ).loc main_v2_3) = result3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0 :=
  (θ_run defs _ _).mono (fun _ h => ⟨fun c => ⟨((h.1 c).1 5).trans (final5 m c), ((h.1 c).1 6).trans (final6 m c), ((h.1 c).1 7).trans (final7 m c), ((h.1 c).1 8).trans (final8 m c),
      ((h.1 c).2 main_arg0 (Pipeline.mem_restRefs_of main_arg0 (by decide) (by decide))).trans (V_main_arg0 m c),
      ((h.1 c).1 2).trans (((dats m 0 c).arrAt_in 2 rfl _).trans ((A_eq m c 2).trans (V_main_arg1 m c))),
      ((h.1 c).2 main_arg2 (Pipeline.mem_restRefs_of main_arg2 (by decide) (by decide))).trans (V_main_arg2 m c)⟩, h.2⟩)
    (run_main_quiescent m ρ)

/-! ## The inputs' blocks -/

/-- The rows of `x`, the weights and the weights' scales as the kernel's region finds them. -/
abbrev xIn (c : Dev nD) : Vec F S96x4608 .bf16 := shapeCast S96x4608 (m ((c : Thread nD τ).loc main_arg0) : Vec F S96x1x4608 .bf16) shapeCasts_S96x1x4608_S96x4608
abbrev wIn (c : Dev nD) : Vec F S4608x9216 .fp8e4m3 := m ((c : Thread nD τ).loc main_arg1)
abbrev sIn (c : Dev nD) : Vec F S1x9216 .f32 := shapeCast S1x9216 (m ((c : Thread nD τ).loc main_arg2) : Vec F S9216 .f32) shapeCasts_S9216_S1x9216

theorem V_v0 (c : Dev nD) : V m c main_v0 = sIn m c := by
  entry_read
  rfl
theorem V_v1 (c : Dev nD) : V m c main_v1 = xIn m c := by
  entry_read
  rfl

/-- The block of `x` is the whole of it. -/
theorem iblk0 (c : Dev nD) (t : Fin cfg0.N) : (iblk m c 0 t : Vec F S96x4608 .bf16) = xIn m c := by
  have hi : ∀ t : Fin grid0.N, win0_0.index t 0 = 0 ∧ win0_0.index t 1 = 0 := by decide +kernel
  funext j
  unfold iblk
  rw [View.read_apply]
  show V m c main_v1 _ = _
  rw [V_v1]
  congr 1
  refine Shape.idx_ext₂ ?_ ?_
  · show win0_0.index t 0 * 96 + 1 * (j 0).val = (j 0).val; rw [(hi t).1]; omega
  · show win0_0.index t 1 * 4608 + 1 * (j 1).val = (j 1).val; rw [(hi t).2]; omega

/-- Block `t` of window 1: columns `512 t` on of its array. -/
theorem iblk1 (c : Dev nD) (t : Fin cfg0.N) (j : S4608x512.Idx) :
    (iblk m c 1 t : Vec F S4608x512 .fp8e4m3) j = wIn m c (ix2 (n0 := 4608) (n1 := 9216) (j 0) ⟨512 * t.val + (j 1).val, by have := (j 1).isLt; have hN : t.val < 9 := lt_of_lt_of_eq t.isLt N9; have h5 : (j 1).val < 512 := (j 1).isLt; omega⟩) := by
  have hi : ∀ t : Fin grid0.N, win0_1.index t 0 = 0 ∧ win0_1.index t 1 = t.val := by decide +kernel
  unfold iblk
  rw [View.read_apply]
  show V m c main_arg1 _ = _
  rw [V_main_arg1]
  congr 1
  refine Shape.idx_ext₂ ?_ ?_
  · show win0_1.index t 0 * 4608 + 1 * (j 0).val = (j 0).val; rw [(hi t).1]; omega
  · show win0_1.index t 1 * 512 + 1 * (j 1).val = 512 * t.val + (j 1).val; rw [(hi t).2]; omega

/-- Block `t` of window 2: columns `4608 + 512 t` on of its array. -/
theorem iblk2 (c : Dev nD) (t : Fin cfg0.N) (j : S4608x512.Idx) :
    (iblk m c 2 t : Vec F S4608x512 .fp8e4m3) j = wIn m c (ix2 (n0 := 4608) (n1 := 9216) (j 0) ⟨4608 + 512 * t.val + (j 1).val, by have := (j 1).isLt; have hN : t.val < 9 := lt_of_lt_of_eq t.isLt N9; have h5 : (j 1).val < 512 := (j 1).isLt; omega⟩) := by
  have hi : ∀ t : Fin grid0.N, win0_2.index t 0 = 0 ∧ win0_2.index t 1 = t.val + 9 := by decide +kernel
  unfold iblk
  rw [View.read_apply]
  show V m c main_arg1 _ = _
  rw [V_main_arg1]
  congr 1
  refine Shape.idx_ext₂ ?_ ?_
  · show win0_2.index t 0 * 4608 + 1 * (j 0).val = (j 0).val; rw [(hi t).1]; omega
  · show win0_2.index t 1 * 512 + 1 * (j 1).val = 4608 + 512 * t.val + (j 1).val; rw [(hi t).2]; omega

/-- Block `t` of window 3: columns `512 t` on of its array. -/
theorem iblk3 (c : Dev nD) (t : Fin cfg0.N) (j : S1x512.Idx) :
    (iblk m c 3 t : Vec F S1x512 .f32) j = sIn m c (ix2 (n0 := 1) (n1 := 9216) (j 0) ⟨512 * t.val + (j 1).val, by have := (j 1).isLt; have hN : t.val < 9 := lt_of_lt_of_eq t.isLt N9; have h5 : (j 1).val < 512 := (j 1).isLt; omega⟩) := by
  have hi : ∀ t : Fin grid0.N, win0_3.index t 0 = 0 ∧ win0_3.index t 1 = t.val := by decide +kernel
  unfold iblk
  rw [View.read_apply]
  show V m c main_v0 _ = _
  rw [V_v0]
  congr 1
  refine Shape.idx_ext₂ ?_ ?_
  · show win0_3.index t 0 * 1 + 1 * (j 0).val = (j 0).val; rw [(hi t).1]; omega
  · show win0_3.index t 1 * 512 + 1 * (j 1).val = 512 * t.val + (j 1).val; rw [(hi t).2]; omega

/-- Block `t` of window 4: columns `4608 + 512 t` on of its array. -/
theorem iblk4 (c : Dev nD) (t : Fin cfg0.N) (j : S1x512.Idx) :
    (iblk m c 4 t : Vec F S1x512 .f32) j = sIn m c (ix2 (n0 := 1) (n1 := 9216) (j 0) ⟨4608 + 512 * t.val + (j 1).val, by have := (j 1).isLt; have hN : t.val < 9 := lt_of_lt_of_eq t.isLt N9; have h5 : (j 1).val < 512 := (j 1).isLt; omega⟩) := by
  have hi : ∀ t : Fin grid0.N, win0_4.index t 0 = 0 ∧ win0_4.index t 1 = t.val + 9 := by decide +kernel
  unfold iblk
  rw [View.read_apply]
  show V m c main_v0 _ = _
  rw [V_v0]
  congr 1
  refine Shape.idx_ext₂ ?_ ?_
  · show win0_4.index t 0 * 1 + 1 * (j 0).val = (j 0).val; rw [(hi t).1]; omega
  · show win0_4.index t 1 * 512 + 1 * (j 1).val = 4608 + 512 * t.val + (j 1).val; rw [(hi t).2]; omega

end Cert.KernelIdeal.Body

end
-- ==== Proof.KernelFrame.lean ====
/-
  The kernel's frame at the bits. The program's text and its idealization's are one text under two names, so the run proved
  of the one, at any floats, is a run of the other.
-/
module

public import proofs.«01_k».proof.Proof.KernelValue
public import proofs.«01_k».proof.Proof.Gen.Kernel

@[expose] public section

set_option maxRecDepth 65536

noncomputable section

namespace Cert.KernelFrame

open Idealize.ShloMosaic Idealize.ShloMosaic.TcCoe Idealize.SL Idealize.SL.Sem

/-- The two names' body tables are one: the one label they have runs one body. -/
theorem defs₀_eq {F : FTy → Type} [FloatOps F] : Kernel.defs₀ (F := F) = KernelIdeal.defs₀ (F := F) := by
  unfold Kernel.defs₀ KernelIdeal.defs₀
  refine congrArg Defs.onTc ?_
  funext l x
  match l, x with
  | 0, (t, s) => rfl

theorem defs_eq {F : FTy → Type} [FloatOps F] : Kernel.defs (F := F) = KernelIdeal.defs (F := F) :=
  congrArg (Pipeline.defs (KernelIdeal.pcfgs (F := F))) defs₀_eq

/-- The two names' programs are one. -/
theorem main_eq {F : FTy → Type} [FloatOps F] : Kernel.main (F := F) = KernelIdeal.main (F := F) := rfl

/-- The frame under the one name, at any floats. -/
theorem frame_ideal {F : FTy → Type} [FloatOps F] (m : (ℓ : Loc KernelIdeal.nD KernelIdeal.τ KernelIdeal.sig) → Buf (Elt F) ℓ) (g : Dev KernelIdeal.nD → PrngReg) :
    θ_run (KernelIdeal.defs (F := F)) (onTc (τ := KernelIdeal.τ) (KernelIdeal.main (F := F))) ⟨m, fun _ => 0, g⟩ fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2))
      ∧ r.2.sem = fun _ => 0 :=
  (θ_run _ _ _).mono (fun _ h => ⟨fun c => (h.1 c).2.2.2.2, h.2⟩) (KernelIdeal.Body.run m g)

/-- The frame under the other. -/
theorem frame {F : FTy → Type} [FloatOps F] (m : (ℓ : Loc Kernel.nD Kernel.τ Kernel.sig) → Buf (Elt F) ℓ) (g : Dev Kernel.nD → PrngReg) :
    θ_run (Kernel.defs (F := F)) (onTc (τ := Kernel.τ) (Kernel.main (F := F))) ⟨m, fun _ => 0, g⟩ fun r => (∀ c : Dev Kernel.nD,
      r.2.mem ((c.tc : Thread Kernel.nD Kernel.τ).loc Kernel.main_arg0) = m ((c.tc : Thread Kernel.nD Kernel.τ).loc Kernel.main_arg0)
      ∧ r.2.mem ((c.tc : Thread Kernel.nD Kernel.τ).loc Kernel.main_arg1) = m ((c.tc : Thread Kernel.nD Kernel.τ).loc Kernel.main_arg1)
      ∧ r.2.mem ((c.tc : Thread Kernel.nD Kernel.τ).loc Kernel.main_arg2) = m ((c.tc : Thread Kernel.nD Kernel.τ).loc Kernel.main_arg2))
      ∧ r.2.sem = fun _ => 0 := by
  rw [defs_eq]
  exact frame_ideal m g

end Cert.KernelFrame

end
-- ==== Proof.Quant.lean ====
/-
  The power-of-two scale of the quantiser, one number at a time, in extended reals.

  The kernel finds the exponent field of `y` by comparing `y` with the floats `f <<< 23`, forms the scale's exponent
  as an integer and builds the power of two from its bits. The reference takes `⌊log y / log 2⌋ + 1` in the same range
  and raises two to it. They agree at every extended real `y`.
-/
module

public import Idealize.ShloMosaic.Lib.Pointwise
public import Idealize.ShloMosaic.PureOps.Ideal
public import Idealize.ShloMosaic.PureOps.Ideal.Laws

@[expose] public section

noncomputable section

namespace Cert.Quant

open Idealize.ShloMosaic

/-! ## The two spellings -/

/-- The float whose exponent field is `b` and whose other bits are zero. -/
def thr (b : BitVec 32) : EReal := Ideal.ofBits .f32 (IntOp.shli .vector b 23#32)

/-- One step of the kernel's search. -/
def step (y : EReal) (b s : BitVec 32) : BitVec 32 := if Ideal.cmp .oge y (thr (b + s)) = 1 then b + s else b

/-- The kernel's exponent field. -/
def field (y : EReal) : BitVec 32 :=
  step y (step y (step y (step y (step y (step y (step y (step y 0#32 128#32) 64#32) 32#32) 16#32) 8#32) 4#32) 2#32) 1#32

/-- The kernel's exponent of the scale, from `y` and the row's largest magnitude `a`. -/
def kexp (y a : EReal) : BitVec 32 :=
  if (IntOp.cmpi .eq (field y) 0#32 ||| IntOp.cmpi .eq (field y) 255#32) ||| Ideal.cmp .oeq a (Ideal.ofBits .f32 0x00000000#32) = 1
    then 0#32 else field y - 126#32

/-- The kernel's power of two. -/
def kpow (e : BitVec 32) : EReal := thr (IntOp.minsi 255#32 (IntOp.maxsi 0#32 (e + 127#32)))

/-- The reference's exponent of the scale. -/
def rexp (y a : EReal) : EReal :=
  if Ideal.cmp .oeq a (Ideal.ofBits .f32 0x00000000#32) = 1 then Ideal.ofBits .f32 0x00000000#32
  else if Ideal.cmp .olt y (Ideal.ofBits .f32 0x00800000#32) ||| Ideal.cmp .oeq y (Ideal.ofBits .f32 0x7F800000#32) = 1
    then Ideal.ofBits .f32 0x00000000#32
  else min (Ideal.ofBits .f32 0x43000000#32) (max (Ideal.ofBits .f32 0xC2FA0000#32)
    (Ideal.liftRound Int.floor (Ideal.div (Ideal.log y) (Ideal.log (Ideal.ofBits .f32 0x40000000#32))) + Ideal.ofBits .f32 0x3F800000#32))

/-- The reference's power of two. -/
def rpow (e : EReal) : EReal :=
  if Ideal.cmp .ogt e (Ideal.ofBits .f32 0x42FE0000#32) = 1 then Ideal.ofBits .f32 0x7F800000#32
  else if Ideal.cmp .olt e (Ideal.ofBits .f32 0xC2FC0000#32) = 1 then Ideal.ofBits .f32 0x00000000#32
  else Ideal.exp2 e

/-! ## The constants -/

theorem c_zero : Ideal.ofBits .f32 0x00000000#32 = 0 := by simp [Ideal.ofBits, Ideal.ieee]
theorem c_top : Ideal.ofBits .f32 0x7F800000#32 = ⊤ := by simp [Ideal.ofBits, Ideal.ieee]
theorem c_one : Ideal.ofBits .f32 0x3F800000#32 = ((1 : ℝ) : EReal) := by simp [Ideal.ofBits, Ideal.ieee, -EReal.coe_mul]; norm_num
theorem c_two : Ideal.ofBits .f32 0x40000000#32 = ((2 : ℝ) : EReal) := by simp [Ideal.ofBits, Ideal.ieee, -EReal.coe_mul]; norm_num
theorem c_tiny : Ideal.ofBits .f32 0x00800000#32 = (((2 : ℝ) ^ (-126 : ℤ) : ℝ) : EReal) := by
  simp [Ideal.ofBits, Ideal.ieee, -EReal.coe_mul]; norm_num
theorem c_128 : Ideal.ofBits .f32 0x43000000#32 = ((128 : ℝ) : EReal) := by simp [Ideal.ofBits, Ideal.ieee, -EReal.coe_mul]; norm_num
theorem c_127 : Ideal.ofBits .f32 0x42FE0000#32 = ((127 : ℝ) : EReal) := by simp [Ideal.ofBits, Ideal.ieee, -EReal.coe_mul]; norm_num
theorem c_n125 : Ideal.ofBits .f32 0xC2FA0000#32 = ((-125 : ℝ) : EReal) := by simp [Ideal.ofBits, Ideal.ieee, -EReal.coe_mul]; norm_num
theorem c_n126 : Ideal.ofBits .f32 0xC2FC0000#32 = ((-126 : ℝ) : EReal) := by simp [Ideal.ofBits, Ideal.ieee, -EReal.coe_mul]; norm_num

/-! ## The power with a given exponent field -/

theorem shl_field : ∀ f : Fin 256, (BitVec.extractLsb' 31 1 (IntOp.shli .vector (BitVec.ofNat 32 f.val) 23#32) = 0#1)
    ∧ (BitVec.extractLsb' 23 8 (IntOp.shli .vector (BitVec.ofNat 32 f.val) 23#32)).toNat = f.val
    ∧ (BitVec.extractLsb' 0 23 (IntOp.shli .vector (BitVec.ofNat 32 f.val) 23#32)).toNat = 0 := by decide +kernel

theorem thr_eq (f : ℕ) (hf : f < 256) :
    thr (BitVec.ofNat 32 f) = if f = 255 then ⊤ else if f = 0 then 0 else (((2 : ℝ) ^ ((f : ℤ) - 127) : ℝ) : EReal) := by
  obtain ⟨h0, h1, h2⟩ := shl_field ⟨f, hf⟩
  simp only at h0 h1 h2
  unfold thr
  simp only [Ideal.ofBits, Ideal.ieee, h1, h2, Nat.reduceAdd, h0]
  by_cases h : f = 255
  · subst h; simp
  by_cases h' : f = 0
  · subst h'; simp
  have e : (2 : ℝ) ^ ((f : ℤ) - 127) = 2 ^ 23 * (2 : ℝ) ^ ((f : ℤ) - 127 - 23) := by
    rw [show ((f : ℤ) - 127) = 23 + ((f : ℤ) - 127 - 23) by ring, zpow_add₀ (by norm_num)]
    norm_num
  simp [h, h', e, -EReal.coe_mul]
  left; norm_num

theorem thr_zero : thr 0#32 = 0 := by simpa using thr_eq 0 (by norm_num)

/-! ## The search -/

/-- The search's state: `b` is the field or below it, within `r`. -/
def Near (y : EReal) (b r : ℕ) : Prop :=
  b + r ≤ 255 ∧ (b = 0 ∨ thr (BitVec.ofNat 32 b) ≤ y) ∧ (b + r = 255 ∨ y < thr (BitVec.ofNat 32 (b + r + 1)))

theorem near_step {y : EReal} {w : BitVec 32} {b : ℕ} (s : ℕ) (hs : 0 < s) (hw : w = BitVec.ofNat 32 b) (h : Near y b (2 * s - 1)) :
    ∃ b', step y w (BitVec.ofNat 32 s) = BitVec.ofNat 32 b' ∧ Near y b' (s - 1) := by
  obtain ⟨h1, h2, h3⟩ := h
  have e : w + BitVec.ofNat 32 s = BitVec.ofNat 32 (b + s) := by rw [hw, BitVec.ofNat_add]
  unfold step
  rw [e]
  by_cases hy : thr (BitVec.ofNat 32 (b + s)) ≤ y
  · refine ⟨b + s, ?_, by omega, .inr hy, ?_⟩
    · rw [if_pos]; simp [Ideal.cmp, hy]
    · rcases h3 with h3 | h3
      · left; omega
      · right; rwa [show b + s + (s - 1) + 1 = b + (2 * s - 1) + 1 by omega]
  · refine ⟨b, ?_, by omega, h2, .inr ?_⟩
    · rw [if_neg, hw]; simp [Ideal.cmp, hy]
    · rw [show b + (s - 1) + 1 = b + s by omega]; exact not_le.mp hy

/-- The search ends at the exponent field. -/
theorem field_spec (y : EReal) : ∃ f : ℕ, f ≤ 255 ∧ field y = BitVec.ofNat 32 f ∧ (f = 0 ∨ thr (BitVec.ofNat 32 f) ≤ y)
    ∧ (f = 255 ∨ y < thr (BitVec.ofNat 32 (f + 1))) := by
  have h0 : Near y 0 (2 * 128 - 1) := ⟨by norm_num, .inl rfl, .inl (by norm_num)⟩
  obtain ⟨b1, e1, h1⟩ := near_step 128 (by norm_num) (w := 0#32) rfl h0
  obtain ⟨b2, e2, h2⟩ := near_step 64 (by norm_num) e1 h1
  obtain ⟨b3, e3, h3⟩ := near_step 32 (by norm_num) e2 h2
  obtain ⟨b4, e4, h4⟩ := near_step 16 (by norm_num) e3 h3
  obtain ⟨b5, e5, h5⟩ := near_step 8 (by norm_num) e4 h4
  obtain ⟨b6, e6, h6⟩ := near_step 4 (by norm_num) e5 h5
  obtain ⟨b7, e7, h7⟩ := near_step 2 (by norm_num) e6 h6
  obtain ⟨b8, e8, h8⟩ := near_step 1 (by norm_num) e7 h7
  exact ⟨b8, by have := h8.1; omega, e8, h8.2.1, h8.2.2⟩

theorem or_one (b : BitVec 1) : b ||| 1#1 = 1#1 := by revert b; decide
theorem one_or (b : BitVec 1) : 1#1 ||| b = 1#1 := by revert b; decide

/-! ## The exponent -/

theorem floor_log (r : ℝ) (n : ℤ) (h : (2 : ℝ) ^ n ≤ r) : n ≤ ⌊Real.log r / Real.log 2⌋ := by
  have hr : 0 < r := lt_of_lt_of_le (zpow_pos (by norm_num) n) h
  have h2 : 0 < Real.log 2 := Real.log_pos (by norm_num)
  rw [Int.le_floor, le_div_iff₀ h2, ← Real.log_zpow]
  exact Real.log_le_log (zpow_pos (by norm_num) n) h

theorem floor_log_lt (r : ℝ) (hr : 0 < r) (n : ℤ) (h : r < (2 : ℝ) ^ n) : ⌊Real.log r / Real.log 2⌋ < n := by
  have h2 : 0 < Real.log 2 := Real.log_pos (by norm_num)
  rw [Int.floor_lt, div_lt_iff₀ h2, ← Real.log_zpow]
  exact Real.log_lt_log hr h

theorem log_div (r : ℝ) (hr : 0 < r) :
    Ideal.div (Ideal.log (r : EReal)) (Ideal.log (Ideal.ofBits .f32 0x40000000#32)) = ((Real.log r / Real.log 2 : ℝ) : EReal) := by
  have h2 : Real.log 2 ≠ 0 := (Real.log_pos (by norm_num)).ne'
  rw [c_two, Ideal.log_coe, Ideal.log_coe, if_neg (not_le.mpr hr), if_neg (by norm_num)]
  unfold Ideal.div
  rw [if_neg (by exact_mod_cast h2), ← EReal.coe_inv, ← EReal.coe_mul, div_eq_mul_inv]

/-- The two exponents are one integer. -/
theorem exp_spec (y a : EReal) : ∃ n : ℤ, -125 ≤ n ∧ n ≤ 128 ∧ kexp y a = BitVec.ofInt 32 n ∧ rexp y a = ((n : ℝ) : EReal) := by
  obtain ⟨f, hf, ef, hlo, hhi⟩ := field_spec y
  unfold kexp rexp
  rw [ef]
  by_cases ha : a = 0
  · refine ⟨0, by norm_num, by norm_num, ?_, ?_⟩
    · rw [if_pos]; · rfl
      rw [c_zero, show Ideal.cmp .oeq a 0 = 1#1 by simp [Ideal.cmp, ha]]; exact or_one _
    · rw [if_pos]; · rw [c_zero]; simp
      rw [c_zero]; simp [Ideal.cmp, ha]
  rw [if_neg (c := Ideal.cmp .oeq a _ = 1) (by rw [c_zero]; simp [Ideal.cmp, ha])]
  have ha' : Ideal.cmp .oeq a (Ideal.ofBits .f32 0x00000000#32) = 0#1 := by rw [c_zero]; simp [Ideal.cmp, ha]
  rw [ha', c_tiny, c_top, c_zero]
  by_cases h0 : f = 0
  · subst h0
    have hy : y < (((2 : ℝ) ^ (-126 : ℤ) : ℝ) : EReal) := by
      rcases hhi with h | h
      · omega
      · rw [thr_eq 1 (by norm_num)] at h; simpa using h
    refine ⟨0, by norm_num, by norm_num, ?_, ?_⟩
    · rw [if_pos]; · rfl
      rfl
    · rw [if_pos]; · simp
      have : Ideal.cmp .olt y (((2 : ℝ) ^ (-126 : ℤ) : ℝ) : EReal) = 1#1 := by simp only [Ideal.cmp, hy, decide_true]; rfl
      rw [this]; exact one_or _
  by_cases h255 : f = 255
  · subst h255
    have hy : y = ⊤ := by
      rcases hlo with h | h
      · omega
      · rw [thr_eq 255 (by norm_num)] at h; simpa using h
    subst hy
    refine ⟨0, by norm_num, by norm_num, ?_, ?_⟩
    · rw [if_pos]; · rfl
      rfl
    · rw [if_pos]; · simp
      have : Ideal.cmp .oeq (⊤ : EReal) ⊤ = 1#1 := by simp [Ideal.cmp]
      rw [this]; exact or_one _
  have hlo' : (((2 : ℝ) ^ ((f : ℤ) - 127) : ℝ) : EReal) ≤ y := by
    rcases hlo with h | h
    · omega
    · rw [thr_eq f (by omega), if_neg h255, if_neg h0] at h; exact h
  have hhi' : y < thr (BitVec.ofNat 32 (f + 1)) := hhi.resolve_left h255
  have htop : y < ⊤ := lt_of_lt_of_le hhi' le_top
  have hbot : y ≠ ⊥ := fun h => by rw [h] at hlo'; simp at hlo'
  lift y to ℝ using ⟨htop.ne, hbot⟩
  have hlo'' : (2 : ℝ) ^ ((f : ℤ) - 127) ≤ y := by exact_mod_cast hlo'
  have hpos : 0 < y := lt_of_lt_of_le (zpow_pos (by norm_num) _) hlo''
  have hlt : ¬ y < (2 : ℝ) ^ (-126 : ℤ) := not_lt.mpr (le_trans (zpow_le_zpow_right₀ (by norm_num) (by omega)) hlo'')
  refine ⟨(f : ℤ) - 126, by omega, by omega, ?_, ?_⟩
  · rw [if_neg]
    · have : ∀ f : Fin 256, BitVec.ofNat 32 f.val - 126#32 = BitVec.ofInt 32 ((f.val : ℤ) - 126) := by decide +kernel
      exact this ⟨f, by omega⟩
    · have : ∀ f : Fin 256, f.val ≠ 0 → f.val ≠ 255 →
          ¬ ((IntOp.cmpi .eq (BitVec.ofNat 32 f.val) 0#32 ||| IntOp.cmpi .eq (BitVec.ofNat 32 f.val) 255#32) ||| 0#1 = 1) := by decide +kernel
      exact this ⟨f, by omega⟩ h0 h255
  · have e1 : Ideal.cmp .olt (y : EReal) (((2 : ℝ) ^ (-126 : ℤ) : ℝ) : EReal) = 0#1 := by
      have : ¬ (y : EReal) < (((2 : ℝ) ^ (-126 : ℤ) : ℝ) : EReal) := by exact_mod_cast hlt
      simp only [Ideal.cmp, this, decide_false]; rfl
    have e2 : Ideal.cmp .oeq (y : EReal) ⊤ = 0#1 := by simp [Ideal.cmp]
    rw [e1, e2, if_neg (by decide), log_div y hpos, c_128, c_n125, c_one]
    show min ((128 : ℝ) : EReal) (max ((-125 : ℝ) : EReal) (((⌊Real.log y / Real.log 2⌋ : ℝ) : EReal) + ((1 : ℝ) : EReal))) = _
    rw [← EReal.coe_add, ← EReal.coe_strictMono.monotone.map_max, ← EReal.coe_strictMono.monotone.map_min, EReal.coe_eq_coe_iff]
    have hge := floor_log y _ hlo''
    have key : min 128 (max (-125) (⌊Real.log y / Real.log 2⌋ + 1)) = (f : ℤ) - 126 := by
      by_cases h254 : f = 254
      · subst h254; omega
      · have hhi'' : y < (2 : ℝ) ^ (((f + 1 : ℕ) : ℤ) - 127) := by
          rw [thr_eq (f + 1) (by omega), if_neg (by omega), if_neg (by omega)] at hhi'
          exact_mod_cast hhi'
        have := floor_log_lt y hpos _ hhi''
        push_cast at this
        omega
    rw [← key]
    push_cast
    rfl

/-! ## The power of two -/

theorem pow_eq (n : ℤ) (h1 : -128 ≤ n) (h2 : n ≤ 128) : kpow (BitVec.ofInt 32 n) = rpow ((n : ℝ) : EReal) := by
  have hk : ∀ k : Fin 257, IntOp.minsi 255#32 (IntOp.maxsi 0#32 (BitVec.ofInt 32 ((k.val : ℤ) - 128) + 127#32))
      = BitVec.ofNat 32 (k.val - 1) := by decide +kernel
  obtain ⟨k, rfl⟩ : ∃ k : ℕ, n = (k : ℤ) - 128 := ⟨(n + 128).toNat, by omega⟩
  have hk' : k < 257 := by omega
  unfold kpow rpow
  rw [hk ⟨k, hk'⟩, thr_eq _ (by show k - 1 < 256; omega), c_127, c_n126, c_top, c_zero]
  show (if k - 1 = 255 then (⊤ : EReal) else if k - 1 = 0 then 0 else (((2 : ℝ) ^ (((k - 1 : ℕ) : ℤ) - 127) : ℝ) : EReal)) = _
  by_cases ht : k = 256
  · subst ht
    rw [if_pos rfl, if_pos]
    simp only [Ideal.cmp, EReal.coe_lt_coe_iff]; norm_num
  have c1 : ¬ (Ideal.cmp .ogt (((k : ℤ) - 128 : ℤ) : ℝ) ((127 : ℝ) : EReal) = 1) := by
    have : ¬ ((127 : ℝ) < (((k : ℤ) - 128 : ℤ) : ℝ)) := by
      rw [not_lt]; have : (k : ℤ) - 128 ≤ 127 := by omega
      exact_mod_cast this
    simp only [Ideal.cmp, EReal.coe_lt_coe_iff, this, decide_false]; decide
  rw [if_neg (by omega), if_neg c1]
  by_cases hb : k - 1 = 0
  · rw [if_pos hb, if_pos]
    have : ((((k : ℤ) - 128 : ℤ) : ℝ)) < (-126 : ℝ) := by
      have : (k : ℤ) - 128 < -126 := by omega
      exact_mod_cast this
    simp only [Ideal.cmp, EReal.coe_lt_coe_iff, this, decide_true]; rfl
  · have c2 : ¬ (Ideal.cmp .olt (((k : ℤ) - 128 : ℤ) : ℝ) ((-126 : ℝ) : EReal) = 1) := by
      have : ¬ ((((k : ℤ) - 128 : ℤ) : ℝ)) < (-126 : ℝ) := by
        rw [not_lt]; have : -126 ≤ (k : ℤ) - 128 := by omega
        exact_mod_cast this
      simp only [Ideal.cmp, EReal.coe_lt_coe_iff, this, decide_false]; decide
    rw [if_neg hb, if_neg c2, Ideal.exp2_coe, EReal.coe_eq_coe_iff]
    show _ = (2 : ℝ) ^ ((((k : ℤ) - 128 : ℤ) : ℝ))
    rw [Real.rpow_intCast]
    congr 1
    omega

/-- The scale: the kernel's is the reference's. -/
theorem scale_eq (y a : EReal) : kpow (kexp y a) = rpow (rexp y a) := by
  obtain ⟨n, h1, h2, ek, er⟩ := exp_spec y a
  rw [ek, er, pow_eq n (by omega) h2]

/-- The scale's inverse, which the codes are formed with: the kernel's is the reference's. -/
theorem inv_eq (y a : EReal) : kpow (0#32 - kexp y a) = rpow (Ideal.ofBits .f32 0x00000000#32 - rexp y a) := by
  obtain ⟨n, h1, h2, ek, er⟩ := exp_spec y a
  have e : ∀ k : Fin 254, 0#32 - BitVec.ofInt 32 ((k.val : ℤ) - 125) = BitVec.ofInt 32 (-((k.val : ℤ) - 125)) := by decide +kernel
  have e' := e ⟨(n + 125).toNat, by omega⟩
  simp only [show (((n + 125).toNat : ℕ) : ℤ) - 125 = n by omega] at e'
  rw [ek, er, e', pow_eq (-n) (by omega) (by omega), c_zero, zero_sub, ← EReal.coe_neg]
  push_cast
  rfl

end Cert.Quant

end
-- ==== Proof.ReferenceRun.lean ====
/-
  What the four result arrays hold after the reference, whose one grid point reads every array whole.
-/
module

public import proofs.«01_k».proof.Proof.Gen.ReferenceIdeal.Frame
public import Idealize.ShloMosaic.Lib.Claim
public import Idealize.ShloMosaic.Lib.Pipeline.Value
public import Idealize.ShloMosaic.Lib.Pipeline.ValueKit.Basic
public import Idealize.ShloMosaic.Lib.Pointwise

@[expose] public section

set_option maxRecDepth 16384

noncomputable section

namespace Cert.ReferenceIdeal.Body

open Idealize.ShloMosaic Idealize.ShloMosaic.TcCoe Idealize.ShloMosaic.Tactic
open Idealize.SL Idealize.SL.Sem
open Idealize.ShloMosaic.Pipeline (Dat Cfg Window)
open Cert.ReferenceIdeal Cert.ReferenceIdeal.Gen

variable {F : FTy → Type} [FloatOps F]
variable (m : (ℓ : Loc nD τ sig) → Buf (Elt F) ℓ) (ρ : Dev nD → PrngReg)

/-- The rows of `x`, the weights and the weights' scales as the reference's region finds them. -/
abbrev xIn (c : Dev nD) : Vec F S96x4608 .bf16 := shapeCast S96x4608 (m ((c : Thread nD τ).loc main_arg0) : Vec F S96x1x4608 .bf16) shapeCasts_S96x1x4608_S96x4608
abbrev wIn (c : Dev nD) : Vec F S4608x9216 .fp8e4m3 := m ((c : Thread nD τ).loc main_arg1)
abbrev sIn (c : Dev nD) : Vec F S1x9216 .f32 := shapeCast S1x9216 (m ((c : Thread nD τ).loc main_arg2) : Vec F S9216 .f32) shapeCasts_S9216_S1x9216

theorem V_v0 (c : Dev nD) : V m c main_v0 = xIn m c := by
  entry_read
  rfl
theorem V_v1 (c : Dev nD) : V m c main_v1 = sIn m c := by
  entry_read
  rfl

theorem iblk0 (c : Dev nD) (t : Fin cfg0.N) : (iblk m c 0 t : Vec F S96x4608 .bf16) = xIn m c := by
  have hi : ∀ t : Fin grid0.N, win0_0.index t 0 = 0 ∧ win0_0.index t 1 = 0 := by decide +kernel
  funext j
  unfold iblk
  rw [View.read_apply]
  show V m c main_v0 _ = _
  rw [V_v0]
  congr 1
  refine Shape.idx_ext₂ ?_ ?_
  · show win0_0.index t 0 * 96 + 1 * (j 0).val = (j 0).val; rw [(hi t).1]; omega
  · show win0_0.index t 1 * 4608 + 1 * (j 1).val = (j 1).val; rw [(hi t).2]; omega

theorem iblk1 (c : Dev nD) (t : Fin cfg0.N) : (iblk m c 1 t : Vec F S4608x9216 .fp8e4m3) = wIn m c := by
  have hi : ∀ t : Fin grid0.N, win0_1.index t 0 = 0 ∧ win0_1.index t 1 = 0 := by decide +kernel
  funext j
  unfold iblk
  rw [View.read_apply]
  show V m c main_arg1 _ = _
  rw [V_main_arg1]
  congr 1
  refine Shape.idx_ext₂ ?_ ?_
  · show win0_1.index t 0 * 4608 + 1 * (j 0).val = (j 0).val; rw [(hi t).1]; omega
  · show win0_1.index t 1 * 9216 + 1 * (j 1).val = (j 1).val; rw [(hi t).2]; omega

theorem iblk2 (c : Dev nD) (t : Fin cfg0.N) : (iblk m c 2 t : Vec F S1x9216 .f32) = sIn m c := by
  have hi : ∀ t : Fin grid0.N, win0_2.index t 0 = 0 ∧ win0_2.index t 1 = 0 := by decide +kernel
  funext j
  unfold iblk
  rw [View.read_apply]
  show V m c main_v1 _ = _
  rw [V_v1]
  congr 1
  refine Shape.idx_ext₂ ?_ ?_
  · show win0_2.index t 0 * 1 + 1 * (j 0).val = (j 0).val; rw [(hi t).1]; omega
  · show win0_2.index t 1 * 9216 + 1 * (j 1).val = (j 1).val; rw [(hi t).2]; omega

/-! ## The values -/

/-- The rows of `x` in binary32, the exponents of their scales, and the scales' inverses along the rows. -/
abbrev xWide (x : Vec F S96x4608 .bf16) := k0_pay1 x
abbrev xExp (x : Vec F S96x4608 .bf16) := k0_pay2 x
abbrev xInv (x : Vec F S96x4608 .bf16) := k0_pay3 x

def xCodes (x : Vec F S96x4608 .bf16) : Vec F S96x4608 .fp8e4m3 := k0_pay4 (k0_pay1 x) (k0_pay3 x)
def xScales (x : Vec F S96x4608 .bf16) : Vec F S96x1 .f32 := k0_pay5 (k0_pay2 x)
def hRows (x : Vec F S96x4608 .bf16) (w : Vec F S4608x9216 .fp8e4m3) (s : Vec F S1x9216 .f32) : Vec F S96x4608 .f32 :=
  k0_pay6 (k0_pay1 x) (k0_pay2 x) (k0_pay3 x) w s
def hCodes (x : Vec F S96x4608 .bf16) (w : Vec F S4608x9216 .fp8e4m3) (s : Vec F S1x9216 .f32) : Vec F S96x4608 .fp8e4m3 :=
  k0_pay12 (hRows x w s) (k0_pay7 (k0_pay1 x) (k0_pay2 x) (k0_pay3 x) w s) (k0_pay8 (k0_pay1 x) (k0_pay2 x) (k0_pay3 x) w s)
    (k0_pay9 (k0_pay1 x) (k0_pay2 x) (k0_pay3 x) w s) k0_pay10
def hScales (x : Vec F S96x4608 .bf16) (w : Vec F S4608x9216 .fp8e4m3) (s : Vec F S1x9216 .f32) : Vec F S96x1 .f32 :=
  k0_pay13 (k0_pay7 (k0_pay1 x) (k0_pay2 x) (k0_pay3 x) w s) (k0_pay8 (k0_pay1 x) (k0_pay2 x) (k0_pay3 x) w s)
    (k0_pay9 (k0_pay1 x) (k0_pay2 x) (k0_pay3 x) w s) k0_pay10

theorem hz : (![0, 0] : Fin 2 → Nat) = fun _ => 0 := funext fun a => by fin_cases a <;> rfl

theorem ld0 (x : Vec F S96x4608 .bf16) : View.ld x r0_0 = x := View.ld_unit_zero hz _ x
theorem ld1 (x : Vec F S4608x9216 .fp8e4m3) : View.ld x r0_1 = x := View.ld_unit_zero hz _ x
theorem ld2 (x : Vec F S1x9216 .f32) : View.ld x r0_2 = x := View.ld_unit_zero hz _ x

theorem out3 (x : Vec F S96x4608 .bf16) (w : Vec F S4608x9216 .fp8e4m3) (s : Vec F S1x9216 .f32) : out0_3 x w s = hScales x w s := by
  unfold_out out0_3
  rw [ld0, ld1, ld2]
  exact View.canon_unit_zero hz _ _
theorem out4 (x : Vec F S96x4608 .bf16) (w : Vec F S4608x9216 .fp8e4m3) (s : Vec F S1x9216 .f32) : out0_4 x w s = hCodes x w s := by
  unfold_out out0_4
  rw [ld0, ld1, ld2]
  exact View.canon_unit_zero hz _ _
theorem out5 (x : Vec F S96x4608 .bf16) (w : Vec F S4608x9216 .fp8e4m3) (s : Vec F S1x9216 .f32) : out0_5 x w s = xCodes x := by
  unfold_out out0_5
  rw [ld0]
  exact View.canon_unit_zero hz _ _
theorem out6 (x : Vec F S96x4608 .bf16) (w : Vec F S4608x9216 .fp8e4m3) (s : Vec F S1x9216 .f32) : out0_6 x w s = xScales x := by
  unfold_out out0_6
  rw [ld0]
  exact View.canon_unit_zero hz _ _

/-! ## The final arrays -/

/-- The one point. -/
def t₀ : Fin cfg0.N := ⟨0, by decide⟩

theorem eq_t₀ (t : Fin cfg0.N) : t = t₀ := by
  revert t
  exact (by decide +kernel : ∀ t : Fin grid0.N, t = ⟨0, by decide⟩)

/-- Result 0: the one write-back of window 3 covers its array. -/
abbrev result0 (c : Dev nD) : Buf (Elt F) ((c : Thread nD τ).loc main_v2_0) := hScales (xIn m c) (wIn m c) (sIn m c)

theorem flushed3 (c : Dev nD) (t : Fin cfg0.N) :
    (dats m 0 c).flushed 3 t = ((cfg0.win 3).blk t).view.read (Elt F) (result0 m c) := by
  obtain rfl := eq_t₀ t
  show (cfg0.win 3).cut (grid0.coords t₀) ((dats m 0 c).after 3 t₀) = _
  rw [after0_3, out3, iblk0]; rw [iblk1, iblk2]
  have hz' : (fun a => win0_3.index t₀ a * main_v2_0.ty.shape.size a) = fun _ => 0 := funext fun a => by fin_cases a <;> decide +kernel
  exact (Memref.read_access_unit_zero (Elt F) main_v2_0 hz' (fun a => by rw [congrFun hz' a]; simp) (result0 m c)).symm

theorem final3 (c : Dev nD) : (dats m 0 c).arrAt 3 cfg0.N = result0 m c :=
  (dats m 0 c).arrAt_eq_of_cover 3 (result0 m c) (fun t _ => flushed3 m c t) fun i =>
    ⟨t₀, flush0_3 t₀, by
      show i ∈ ((View.whole main_v2_0).slice (win0_3.rect t₀)).set
      rw [View.set_slice_whole, Rect.mem_set_unit]
      intro a
      have h0 : (i 0 : Nat) < 96 := (i 0).isLt
      have h1 : (i 1 : Nat) < 1 := (i 1).isLt
      match a with
      | ⟨0, _⟩ => show win0_3.index t₀ 0 * win0_3.size 0 ≤ (i 0 : Nat) ∧ (i 0 : Nat) < win0_3.index t₀ 0 * win0_3.size 0 + win0_3.xsize (grid0.coords t₀) 0
                  rw [show win0_3.index t₀ 0 * win0_3.size 0 = 0 from by decide +kernel, show win0_3.xsize (grid0.coords t₀) 0 = 96 from by decide +kernel]; omega
      | ⟨1, _⟩ => show win0_3.index t₀ 1 * win0_3.size 1 ≤ (i 1 : Nat) ∧ (i 1 : Nat) < win0_3.index t₀ 1 * win0_3.size 1 + win0_3.xsize (grid0.coords t₀) 1
                  rw [show win0_3.index t₀ 1 * win0_3.size 1 = 0 from by decide +kernel, show win0_3.xsize (grid0.coords t₀) 1 = 1 from by decide +kernel]; omega⟩

/-- Result 1: the one write-back of window 4 covers its array. -/
abbrev result1 (c : Dev nD) : Buf (Elt F) ((c : Thread nD τ).loc main_v2_1) := hCodes (xIn m c) (wIn m c) (sIn m c)

theorem flushed4 (c : Dev nD) (t : Fin cfg0.N) :
    (dats m 0 c).flushed 4 t = ((cfg0.win 4).blk t).view.read (Elt F) (result1 m c) := by
  obtain rfl := eq_t₀ t
  show (cfg0.win 4).cut (grid0.coords t₀) ((dats m 0 c).after 4 t₀) = _
  rw [after0_4, out4, iblk0]; rw [iblk1, iblk2]
  have hz' : (fun a => win0_4.index t₀ a * main_v2_1.ty.shape.size a) = fun _ => 0 := funext fun a => by fin_cases a <;> decide +kernel
  exact (Memref.read_access_unit_zero (Elt F) main_v2_1 hz' (fun a => by rw [congrFun hz' a]; simp) (result1 m c)).symm

theorem final4 (c : Dev nD) : (dats m 0 c).arrAt 4 cfg0.N = result1 m c :=
  (dats m 0 c).arrAt_eq_of_cover 4 (result1 m c) (fun t _ => flushed4 m c t) fun i =>
    ⟨t₀, flush0_4 t₀, by
      show i ∈ ((View.whole main_v2_1).slice (win0_4.rect t₀)).set
      rw [View.set_slice_whole, Rect.mem_set_unit]
      intro a
      have h0 : (i 0 : Nat) < 96 := (i 0).isLt
      have h1 : (i 1 : Nat) < 4608 := (i 1).isLt
      match a with
      | ⟨0, _⟩ => show win0_4.index t₀ 0 * win0_4.size 0 ≤ (i 0 : Nat) ∧ (i 0 : Nat) < win0_4.index t₀ 0 * win0_4.size 0 + win0_4.xsize (grid0.coords t₀) 0
                  rw [show win0_4.index t₀ 0 * win0_4.size 0 = 0 from by decide +kernel, show win0_4.xsize (grid0.coords t₀) 0 = 96 from by decide +kernel]; omega
      | ⟨1, _⟩ => show win0_4.index t₀ 1 * win0_4.size 1 ≤ (i 1 : Nat) ∧ (i 1 : Nat) < win0_4.index t₀ 1 * win0_4.size 1 + win0_4.xsize (grid0.coords t₀) 1
                  rw [show win0_4.index t₀ 1 * win0_4.size 1 = 0 from by decide +kernel, show win0_4.xsize (grid0.coords t₀) 1 = 4608 from by decide +kernel]; omega⟩

/-- Result 2: the one write-back of window 5 covers its array. -/
abbrev result2 (c : Dev nD) : Buf (Elt F) ((c : Thread nD τ).loc main_v2_2) := xCodes (xIn m c)

theorem flushed5 (c : Dev nD) (t : Fin cfg0.N) :
    (dats m 0 c).flushed 5 t = ((cfg0.win 5).blk t).view.read (Elt F) (result2 m c) := by
  obtain rfl := eq_t₀ t
  show (cfg0.win 5).cut (grid0.coords t₀) ((dats m 0 c).after 5 t₀) = _
  rw [after0_5, out5, iblk0]
  have hz' : (fun a => win0_5.index t₀ a * main_v2_2.ty.shape.size a) = fun _ => 0 := funext fun a => by fin_cases a <;> decide +kernel
  exact (Memref.read_access_unit_zero (Elt F) main_v2_2 hz' (fun a => by rw [congrFun hz' a]; simp) (result2 m c)).symm

theorem final5 (c : Dev nD) : (dats m 0 c).arrAt 5 cfg0.N = result2 m c :=
  (dats m 0 c).arrAt_eq_of_cover 5 (result2 m c) (fun t _ => flushed5 m c t) fun i =>
    ⟨t₀, flush0_5 t₀, by
      show i ∈ ((View.whole main_v2_2).slice (win0_5.rect t₀)).set
      rw [View.set_slice_whole, Rect.mem_set_unit]
      intro a
      have h0 : (i 0 : Nat) < 96 := (i 0).isLt
      have h1 : (i 1 : Nat) < 4608 := (i 1).isLt
      match a with
      | ⟨0, _⟩ => show win0_5.index t₀ 0 * win0_5.size 0 ≤ (i 0 : Nat) ∧ (i 0 : Nat) < win0_5.index t₀ 0 * win0_5.size 0 + win0_5.xsize (grid0.coords t₀) 0
                  rw [show win0_5.index t₀ 0 * win0_5.size 0 = 0 from by decide +kernel, show win0_5.xsize (grid0.coords t₀) 0 = 96 from by decide +kernel]; omega
      | ⟨1, _⟩ => show win0_5.index t₀ 1 * win0_5.size 1 ≤ (i 1 : Nat) ∧ (i 1 : Nat) < win0_5.index t₀ 1 * win0_5.size 1 + win0_5.xsize (grid0.coords t₀) 1
                  rw [show win0_5.index t₀ 1 * win0_5.size 1 = 0 from by decide +kernel, show win0_5.xsize (grid0.coords t₀) 1 = 4608 from by decide +kernel]; omega⟩

/-- Result 3: the one write-back of window 6 covers its array. -/
abbrev result3 (c : Dev nD) : Buf (Elt F) ((c : Thread nD τ).loc main_v2_3) := xScales (xIn m c)

theorem flushed6 (c : Dev nD) (t : Fin cfg0.N) :
    (dats m 0 c).flushed 6 t = ((cfg0.win 6).blk t).view.read (Elt F) (result3 m c) := by
  obtain rfl := eq_t₀ t
  show (cfg0.win 6).cut (grid0.coords t₀) ((dats m 0 c).after 6 t₀) = _
  rw [after0_6, out6, iblk0]
  have hz' : (fun a => win0_6.index t₀ a * main_v2_3.ty.shape.size a) = fun _ => 0 := funext fun a => by fin_cases a <;> decide +kernel
  exact (Memref.read_access_unit_zero (Elt F) main_v2_3 hz' (fun a => by rw [congrFun hz' a]; simp) (result3 m c)).symm

theorem final6 (c : Dev nD) : (dats m 0 c).arrAt 6 cfg0.N = result3 m c :=
  (dats m 0 c).arrAt_eq_of_cover 6 (result3 m c) (fun t _ => flushed6 m c t) fun i =>
    ⟨t₀, flush0_6 t₀, by
      show i ∈ ((View.whole main_v2_3).slice (win0_6.rect t₀)).set
      rw [View.set_slice_whole, Rect.mem_set_unit]
      intro a
      have h0 : (i 0 : Nat) < 96 := (i 0).isLt
      have h1 : (i 1 : Nat) < 1 := (i 1).isLt
      match a with
      | ⟨0, _⟩ => show win0_6.index t₀ 0 * win0_6.size 0 ≤ (i 0 : Nat) ∧ (i 0 : Nat) < win0_6.index t₀ 0 * win0_6.size 0 + win0_6.xsize (grid0.coords t₀) 0
                  rw [show win0_6.index t₀ 0 * win0_6.size 0 = 0 from by decide +kernel, show win0_6.xsize (grid0.coords t₀) 0 = 96 from by decide +kernel]; omega
      | ⟨1, _⟩ => show win0_6.index t₀ 1 * win0_6.size 1 ≤ (i 1 : Nat) ∧ (i 1 : Nat) < win0_6.index t₀ 1 * win0_6.size 1 + win0_6.xsize (grid0.coords t₀) 1
                  rw [show win0_6.index t₀ 1 * win0_6.size 1 = 0 from by decide +kernel, show win0_6.xsize (grid0.coords t₀) 1 = 1 from by decide +kernel]; omega⟩

/-- THE RUN: the four results, the arguments unchanged. -/
theorem run : θ_run defs (onTc (τ := τ) (main (F := F))) ⟨m, fun _ => 0, ρ⟩ fun r => ∀ c : Dev nD,
      r.2.mem ((c : Thread nD τ).loc main_v2_0) = result0 m c
      ∧ r.2.mem ((c : Thread nD τ).loc main_v2_1) = result1 m c
      ∧ r.2.mem ((c : Thread nD τ).loc main_v2_2) = result2 m c
      ∧ r.2.mem ((c : Thread nD τ).loc main_v2_3) = result3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final3 m c), ((h c).1 4).trans (final4 m c), ((h c).1 5).trans (final5 m c), ((h c).1 6).trans (final6 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.ReferenceIdeal.Body

end
-- ==== Proof.QuantVec.lean ====
/-
  The quantiser's vectors, read one element at a time: the kernel's codes and scales of an array are the reference's.
-/
module

public import proofs.«01_k».proof.Proof.Quant
public import proofs.«01_k».proof.Proof.BodyCommon
public import proofs.«01_k».proof.Proof.ReferenceRun

@[expose] public section

set_option maxRecDepth 16384

noncomputable section

namespace Cert.QuantVec

open Idealize.ShloMosaic
open Cert.KernelIdeal Cert.KernelIdeal.Gen Cert.Quant

/-! ## The kernel -/

/-- One step of the kernel's search, on every row at once. -/
def vstep (y : FVec Ideal S96x1 .f32) (b : IVec S96x1 32) (s : BitVec 32) : IVec S96x1 32 :=
  select (cmpf .oge y (bitcastToFloat .f32 (shli (addi b (broadcast S96x1 s)) (broadcast S96x1 23#32)))) (addi b (broadcast S96x1 s)) b

theorem vstep_at (y : FVec Ideal S96x1 .f32) (b : IVec S96x1 32) (s : BitVec 32) (i : S96x1.Idx) :
    vstep y b s i = step (y i) (b i) s := rfl

theorem field_at (y : FVec Ideal S96x1 .f32) (i : S96x1.Idx) :
    vstep y (vstep y (vstep y (vstep y (vstep y (vstep y (vstep y (vstep y (broadcast S96x1 0#32) 128#32) 64#32) 32#32) 16#32) 8#32) 4#32) 2#32) 1#32 i
      = field (y i) := by
  unfold field
  simp only [vstep_at]
  rfl

theorem xField_at (x : Vec Ideal S96x4608 .bf16) (i : S96x1.Idx) : Body.xField x i = field (k0_pay10 x i) :=
  (congrFun (show Body.xField x = _ from rfl) i).trans (field_at (k0_pay10 x) i)

theorem hField_at (h : Vec Ideal S96x4608 .f32) (i : S96x1.Idx) : Body.hField h i = field (k0_pay18 h i) :=
  (congrFun (show Body.hField h = _ from rfl) i).trans (field_at (k0_pay18 h) i)

/-- The exponents from the fields `b` and the rows' largest magnitudes `a`. -/
def vexp (b : IVec S96x1 32) (a : FVec Ideal S96x1 .f32) : IVec S96x1 32 :=
  select (ori (ori (cmpi .eq b (broadcast S96x1 0#32)) (cmpi .eq b (broadcast S96x1 255#32)))
    (cmpf .oeq a (broadcast S96x1 (Scalar.ofBits .f32 0x00000000#32)))) (broadcast S96x1 0#32) (subi b (broadcast S96x1 126#32))

theorem vexp_at (b : IVec S96x1 32) (y a : FVec Ideal S96x1 .f32) (i : S96x1.Idx) (hb : b i = field (y i)) : vexp b a i = kexp (y i) (a i) := by
  unfold kexp
  rw [← hb]
  rfl

/-- The powers of two of the exponents. -/
def vpow (e : IVec S96x1 32) : FVec Ideal S96x1 .f32 :=
  bitcastToFloat .f32 (shli (minsi (broadcast S96x1 255#32) (maxsi (broadcast S96x1 0#32) (addi e (broadcast S96x1 127#32)))) (broadcast S96x1 23#32))

theorem vpow_at (e : IVec S96x1 32) (i : S96x1.Idx) : vpow e i = kpow (e i) := rfl

theorem xExp_at (x : Vec Ideal S96x4608 .bf16) (i : S96x1.Idx) :
    k0_pay1 (Body.xField x) (Body.xEdge x) (Body.xZero x) i = kexp (k0_pay10 x i) (k0_pay9 x i) :=
  (congrFun (show k0_pay1 (Body.xField x) (Body.xEdge x) (Body.xZero x) = vexp (Body.xField x) (k0_pay9 x) by
    unfold k0_pay1 vexp Body.xEdge Body.xZero k0_pay15 k0_pay16 Body.xField; rfl) i).trans (vexp_at _ _ _ i (xField_at x i))

theorem hExp_at (h : Vec Ideal S96x4608 .f32) (i : S96x1.Idx) :
    k0_pay5 (Body.hField h) (Body.hSpecial h) 126#32 i = kexp (k0_pay18 h i) (k0_pay17 h i) :=
  (congrFun (show k0_pay5 (Body.hField h) (Body.hSpecial h) 126#32 = vexp (Body.hField h) (k0_pay17 h) by
    unfold k0_pay5 vexp Body.hSpecial k0_pay21 Body.hField; rfl) i).trans (vexp_at _ _ _ i (hField_at h i))

theorem xScales_at (x : Vec Ideal S96x4608 .bf16) (i : S96x1.Idx) :
    Body.xScales x i = kpow (kexp (k0_pay10 x i) (k0_pay9 x i)) := by
  have e : Body.xScales x = vpow (k0_pay1 (Body.xField x) (Body.xEdge x) (Body.xZero x)) := by unfold Body.xScales k0_pay3 vpow; rfl
  rw [e, vpow_at, xExp_at]

theorem hScales_at (h : Vec Ideal S96x4608 .f32) (i : S96x1.Idx) :
    Body.hScales h i = kpow (kexp (k0_pay18 h i) (k0_pay17 h i)) := by
  have e : Body.hScales h = vpow (k0_pay5 (Body.hField h) (Body.hSpecial h) 126#32) := by unfold Body.hScales k0_pay7 vpow; rfl
  rw [e, vpow_at, hExp_at]

/-- The codes of an array whose rows are multiplied by `p`. -/
def codes (v : FVec Ideal S96x4608 .f32) (p : FVec Ideal S96x1 .f32) : FVec Ideal S96x4608 .fp8e4m3 :=
  truncf .fp8e4m3 (minimumf (broadcast S96x4608 (Scalar.ofBits .f32 0x43E00000#32)) (maximumf (broadcast S96x4608 (Scalar.ofBits .f32 0xC3E00000#32))
    (mulf v (broadcastTo S96x4608 p broadcasts_S96x1_S96x4608)))) bitsLt_fp8e4m3_f32

theorem xCodes_eq (x : Vec Ideal S96x4608 .bf16) :
    Body.xCodes x = codes (k0_pay8 x) (fun i => kpow (0#32 - kexp (k0_pay10 x i) (k0_pay9 x i))) := by
  have e : Body.xCodes x = codes (k0_pay8 x) (vpow (subi (broadcast S96x1 0#32) (k0_pay1 (Body.xField x) (Body.xEdge x) (Body.xZero x)))) := by
    unfold Body.xCodes k0_pay2 vpow codes; rfl
  rw [e]
  refine congrArg (codes (k0_pay8 x)) (funext fun i => ?_)
  rw [vpow_at, ← xExp_at]
  rfl

theorem hCodes_eq (h : Vec Ideal S96x4608 .f32) :
    Body.hCodes h = codes h (fun i => kpow (0#32 - kexp (k0_pay18 h i) (k0_pay17 h i))) := by
  have e : Body.hCodes h = codes h (vpow (subi (broadcast S96x1 0#32) (k0_pay5 (Body.hField h) (Body.hSpecial h) 126#32))) := by
    unfold Body.hCodes k0_pay6 vpow codes; rfl
  rw [e]
  refine congrArg (codes h) (funext fun i => ?_)
  rw [vpow_at, ← hExp_at]
  rfl

/-! ## The reference, on the same array -/

/-- The reference's exponents. -/
def rvexp (y a : FVec Ideal S96x1 .f32) : FVec Ideal S96x1 .f32 :=
  select (cmpf .oeq a (broadcast S96x1 (Scalar.ofBits .f32 0x00000000#32))) (broadcast S96x1 (Scalar.ofBits .f32 0x00000000#32))
    (select (ori (cmpf .olt y (broadcast S96x1 (Scalar.ofBits .f32 0x00800000#32))) (cmpf .oeq y (broadcast S96x1 (Scalar.ofBits .f32 0x7F800000#32))))
      (broadcast S96x1 (Scalar.ofBits .f32 0x00000000#32))
      (minimumf (broadcast S96x1 (Scalar.ofBits .f32 0x43000000#32)) (maximumf (broadcast S96x1 (Scalar.ofBits .f32 0xC2FA0000#32))
        (addf (floor (divf (log y) (log (broadcast S96x1 (Scalar.ofBits .f32 0x40000000#32))))) (broadcast S96x1 (Scalar.ofBits .f32 0x3F800000#32))))))

theorem rvexp_at (y a : FVec Ideal S96x1 .f32) (i : S96x1.Idx) : rvexp y a i = rexp (y i) (a i) := rfl

/-- The reference's powers of two. -/
def rvpow (e : FVec Ideal S96x1 .f32) : FVec Ideal S96x1 .f32 :=
  select (cmpf .ogt e (broadcast S96x1 (Scalar.ofBits .f32 0x42FE0000#32))) (broadcast S96x1 (Scalar.ofBits .f32 0x7F800000#32))
    (select (cmpf .olt e (broadcast S96x1 (Scalar.ofBits .f32 0xC2FC0000#32))) (broadcast S96x1 (Scalar.ofBits .f32 0x00000000#32)) (exp2 e))

theorem rvpow_at (e : FVec Ideal S96x1 .f32) (i : S96x1.Idx) : rvpow e i = rpow (e i) := rfl

theorem ref_xExp (x : Vec Ideal S96x4608 .bf16) : ReferenceIdeal.Gen.k0_pay2 (F := Ideal) x = rvexp (k0_pay10 x) (k0_pay9 x) := by
  unfold ReferenceIdeal.Gen.k0_pay2 ReferenceIdeal.Gen.k0_pay1 rvexp k0_pay10 k0_pay9 k0_pay8; rfl

theorem ref_xScales_at (x : Vec Ideal S96x4608 .bf16) (i : S96x1.Idx) :
    ReferenceIdeal.Body.xScales (F := Ideal) x i = rpow (rexp (k0_pay10 x i) (k0_pay9 x i)) := by
  have e : ReferenceIdeal.Body.xScales (F := Ideal) x = rvpow (ReferenceIdeal.Gen.k0_pay2 (F := Ideal) x) := by
    unfold ReferenceIdeal.Body.xScales ReferenceIdeal.Gen.k0_pay5 rvpow; rfl
  rw [e, rvpow_at, ref_xExp, rvexp_at]

theorem ref_xCodes_eq (x : Vec Ideal S96x4608 .bf16) :
    ReferenceIdeal.Body.xCodes (F := Ideal) x
      = codes (k0_pay8 x) (fun i => rpow (Ideal.ofBits .f32 0x00000000#32 - rexp (k0_pay10 x i) (k0_pay9 x i))) := by
  have e : ReferenceIdeal.Body.xCodes (F := Ideal) x = codes (k0_pay8 x) (rvpow (subf (broadcast S96x1 (Scalar.ofBits .f32 0x00000000#32))
      (ReferenceIdeal.Gen.k0_pay2 (F := Ideal) x))) := by
    unfold ReferenceIdeal.Body.xCodes ReferenceIdeal.Gen.k0_pay4 ReferenceIdeal.Gen.k0_pay3 ReferenceIdeal.Gen.k0_pay1 rvpow codes k0_pay8; rfl
  rw [e, ref_xExp]
  refine congrArg (codes (k0_pay8 x)) (funext fun i => ?_)
  rw [rvpow_at, ← rvexp_at]
  rfl

theorem ref_hExp (x : Vec Ideal S96x4608 .bf16) (w : Vec Ideal ReferenceIdeal.S4608x9216 .fp8e4m3) (s : Vec Ideal ReferenceIdeal.S1x9216 .f32) (h : Vec Ideal S96x4608 .f32)
    (eh : ReferenceIdeal.Body.hRows (F := Ideal) x w s = h) :
    ReferenceIdeal.Gen.k0_pay11 (F := Ideal) (ReferenceIdeal.Gen.k0_pay7 (ReferenceIdeal.Gen.k0_pay1 x) (ReferenceIdeal.Gen.k0_pay2 x) (ReferenceIdeal.Gen.k0_pay3 x) w s)
      (ReferenceIdeal.Gen.k0_pay8 (ReferenceIdeal.Gen.k0_pay1 x) (ReferenceIdeal.Gen.k0_pay2 x) (ReferenceIdeal.Gen.k0_pay3 x) w s)
      (ReferenceIdeal.Gen.k0_pay9 (ReferenceIdeal.Gen.k0_pay1 x) (ReferenceIdeal.Gen.k0_pay2 x) (ReferenceIdeal.Gen.k0_pay3 x) w s) ReferenceIdeal.Gen.k0_pay10
      = rvexp (k0_pay18 h) (k0_pay17 h) := by
  unfold ReferenceIdeal.Body.hRows at eh
  unfold ReferenceIdeal.Gen.k0_pay11 ReferenceIdeal.Gen.k0_pay9 ReferenceIdeal.Gen.k0_pay8 ReferenceIdeal.Gen.k0_pay7 ReferenceIdeal.Gen.k0_pay10
  rw [eh]
  unfold rvexp k0_pay18 k0_pay17
  rfl

theorem ref_hScales_at (x : Vec Ideal S96x4608 .bf16) (w : Vec Ideal ReferenceIdeal.S4608x9216 .fp8e4m3) (s : Vec Ideal ReferenceIdeal.S1x9216 .f32) (h : Vec Ideal S96x4608 .f32)
    (eh : ReferenceIdeal.Body.hRows (F := Ideal) x w s = h) (i : S96x1.Idx) :
    ReferenceIdeal.Body.hScales (F := Ideal) x w s i = rpow (rexp (k0_pay18 h i) (k0_pay17 h i)) := by
  unfold ReferenceIdeal.Body.hScales ReferenceIdeal.Gen.k0_pay13
  rw [ref_hExp x w s h eh, ← rvexp_at, ← rvpow_at]
  rfl

theorem ref_hCodes_eq (x : Vec Ideal S96x4608 .bf16) (w : Vec Ideal ReferenceIdeal.S4608x9216 .fp8e4m3) (s : Vec Ideal ReferenceIdeal.S1x9216 .f32) (h : Vec Ideal S96x4608 .f32)
    (eh : ReferenceIdeal.Body.hRows (F := Ideal) x w s = h) :
    ReferenceIdeal.Body.hCodes (F := Ideal) x w s
      = codes h (fun i => rpow (Ideal.ofBits .f32 0x00000000#32 - rexp (k0_pay18 h i) (k0_pay17 h i))) := by
  have e : ReferenceIdeal.Body.hCodes (F := Ideal) x w s = codes h (rvpow (subf (broadcast S96x1 (Scalar.ofBits .f32 0x00000000#32))
      (rvexp (k0_pay18 h) (k0_pay17 h)))) := by
    unfold ReferenceIdeal.Body.hCodes ReferenceIdeal.Gen.k0_pay12
    rw [ref_hExp x w s h eh, eh]
    unfold rvpow codes
    rfl
  rw [e]
  refine congrArg (codes h) (funext fun i => ?_)
  rw [rvpow_at, ← rvexp_at]
  rfl

/-! ## One quantiser -/

theorem xScales_eq (x : Vec Ideal S96x4608 .bf16) : Body.xScales x = ReferenceIdeal.Body.xScales (F := Ideal) x :=
  funext fun i => by rw [xScales_at, ref_xScales_at, scale_eq]

theorem xCodes_eq_ref (x : Vec Ideal S96x4608 .bf16) : Body.xCodes x = ReferenceIdeal.Body.xCodes (F := Ideal) x := by
  rw [xCodes_eq, ref_xCodes_eq]
  simp only [inv_eq]

theorem hScales_eq (x : Vec Ideal S96x4608 .bf16) (w : Vec Ideal ReferenceIdeal.S4608x9216 .fp8e4m3) (s : Vec Ideal ReferenceIdeal.S1x9216 .f32) (h : Vec Ideal S96x4608 .f32)
    (eh : ReferenceIdeal.Body.hRows (F := Ideal) x w s = h) : Body.hScales h = ReferenceIdeal.Body.hScales (F := Ideal) x w s :=
  funext fun i => by rw [hScales_at, ref_hScales_at x w s h eh, scale_eq]

theorem hCodes_eq_ref (x : Vec Ideal S96x4608 .bf16) (w : Vec Ideal ReferenceIdeal.S4608x9216 .fp8e4m3) (s : Vec Ideal ReferenceIdeal.S1x9216 .f32) (h : Vec Ideal S96x4608 .f32)
    (eh : ReferenceIdeal.Body.hRows (F := Ideal) x w s = h) : Body.hCodes h = ReferenceIdeal.Body.hCodes (F := Ideal) x w s := by
  rw [hCodes_eq, ref_hCodes_eq x w s h eh]
  simp only [inv_eq]

end Cert.QuantVec

end
-- ==== Proof.Equation.lean ====
/-
  THE EQUATION at the extended reals: the rows the kernel assembles, block of columns after block of columns, are the rows
  the reference computes at once, and so the four results agree.
-/
module

public import proofs.«01_k».proof.Proof.QuantVec
public import proofs.«01_k».proof.Proof.KernelValue
public import Idealize.ShloMosaic.Lib.MatmulPlain
public import Idealize.ShloMosaic.Lib.ValueLayout

@[expose] public section

set_option maxRecDepth 16384

noncomputable section

namespace Cert.Equation

open Idealize.ShloMosaic hiding ix2 eq_ix2
open Idealize.ShloMosaic.ValueIdx Idealize.ShloMosaic.TcCoe
open Cert.KernelIdeal (S96x4608 S96x1 S4608x512 S1x512 S96x512 nD τ sig main_arg0 main_arg1 main_arg2)
open Cert.ReferenceIdeal (S4608x9216 S1x9216 S96x9216)
open scoped BigOperators

/-! ## A scaled product, at an index -/

/-- A row of codes against one column of weights, by the row's scale and the column's. -/
def lin (xc : Vec Ideal S96x4608 .fp8e4m3) (xs : Vec Ideal S96x1 .f32) (r : Fin 96) (col : Fin 4608 → EReal) (sc : EReal) : EReal :=
  (Ideal.ofBits .f32 0x00000000#32 + ∑ k : Fin 4608, (xc (ix2 r k) : EReal) * col k) * xs (ix2 r (0 : Fin 1)) * sc

/-- The scaled product of all rows with `N` columns. -/
def vlin (N : ℕ) (xc : Vec Ideal S96x4608 .fp8e4m3) (xs : Vec Ideal S96x1 .f32) (w : Vec Ideal ⟨2, ![4608, N]⟩ .fp8e4m3) (s : Vec Ideal ⟨2, ![1, N]⟩ .f32)
    (h1 : S96x1.Broadcasts ⟨2, ![96, N]⟩) (h2 : (⟨2, ![1, N]⟩ : Shape).Broadcasts ⟨2, ![96, N]⟩) : FVec Ideal ⟨2, ![96, N]⟩ .f32 :=
  mulf (mulf (matmul (φ₁ := .fp8e4m3) (φ₂ := .fp8e4m3) (DotDims.plain 96 4608 N) none xc w (constant ⟨2, ![96, N]⟩ .f32 0x00000000#32)) (broadcastTo ⟨2, ![96, N]⟩ xs h1))
    (broadcastTo ⟨2, ![96, N]⟩ s h2)

theorem vlin_at (N : ℕ) (xc : Vec Ideal S96x4608 .fp8e4m3) (xs : Vec Ideal S96x1 .f32) (w : Vec Ideal ⟨2, ![4608, N]⟩ .fp8e4m3) (s : Vec Ideal ⟨2, ![1, N]⟩ .f32)
    (h1 : S96x1.Broadcasts ⟨2, ![96, N]⟩) (h2 : (⟨2, ![1, N]⟩ : Shape).Broadcasts ⟨2, ![96, N]⟩) (r : Fin 96) (c : Fin N) :
    vlin N xc xs w s h1 h2 (ix2 r c) = lin xc xs r (fun k => w (ix2 k c)) (s (ix2 (0 : Fin 1) c)) := by
  have e1 : broadcastTo ⟨2, ![96, N]⟩ xs h1 (ix2 r c) = xs (ix2 r (0 : Fin 1)) :=
    broadcastTo_apply xs h1 (ix2 r c) (ix2 r (0 : Fin 1)) fun a => by
      match a with
      | ⟨0, _⟩ => rfl
      | ⟨1, _⟩ => rfl
  have e2 : broadcastTo ⟨2, ![96, N]⟩ s h2 (ix2 r c) = s (ix2 (0 : Fin 1) c) := broadcastTo_1b_ab_apply s h2 r c
  have e3 := Ideal.matmul_plain_apply (φ₁ := .fp8e4m3) (φ₂ := .fp8e4m3) none xc w (constant (F := Ideal) ⟨2, ![96, N]⟩ .f32 0x00000000#32) r c
  show FloatOps.matmul (F := Ideal) (φ₁ := .fp8e4m3) (φ₂ := .fp8e4m3) (DotDims.plain 96 4608 N) none xc w (constant ⟨2, ![96, N]⟩ .f32 0x00000000#32) (ix2 r c)
      * broadcastTo ⟨2, ![96, N]⟩ xs h1 (ix2 r c) * broadcastTo ⟨2, ![96, N]⟩ s h2 (ix2 r c) = _
  rw [e1, e2, e3]
  rfl

/-- A gate's value `g` through `g · logistic g`, by the up value `u`. -/
def glu (g u : Ideal .f32) : Ideal .f32 := FloatOps.mulf (FloatOps.mulf g (FloatOps.logistic g)) u

def vglu {s : Shape} (g u : FVec Ideal s .f32) : FVec Ideal s .f32 := mulf (mulf g (logistic g)) u

theorem vglu_at {s : Shape} (g u : FVec Ideal s .f32) (i : s.Idx) : vglu g u i = glu (g i) (u i) := rfl

/-! ## The two programs' rows, at an index -/

theorem hBlock_at (xc : Vec Ideal S96x4608 .fp8e4m3) (xs : Vec Ideal S96x1 .f32) (wg wu : Vec Ideal S4608x512 .fp8e4m3) (sg su : Vec Ideal S1x512 .f32) (r : Fin 96) (j : Fin 512) :
    KernelIdeal.Body.hBlock xc xs wg wu sg su (ix2 (n0 := 96) (n1 := 512) r j)
      = glu (lin xc xs r (fun k => wg (ix2 k j)) (sg (ix2 (0 : Fin 1) j))) (lin xc xs r (fun k => wu (ix2 k j)) (su (ix2 (0 : Fin 1) j))) := by
  have e : KernelIdeal.Body.hBlock xc xs wg wu sg su
      = vglu (vlin 512 xc xs wg sg KernelIdeal.Gen.broadcasts_S96x1_S96x512 KernelIdeal.Gen.broadcasts_S1x512_S96x512)
          (vlin 512 xc xs wu su KernelIdeal.Gen.broadcasts_S96x1_S96x512 KernelIdeal.Gen.broadcasts_S1x512_S96x512) := by
    unfold KernelIdeal.Body.hBlock KernelIdeal.Gen.k0_pay4
    unfold vglu vlin
    simp only [shapeCast_self]
    rfl
  rw [e, vglu_at, vlin_at, vlin_at]

theorem hRows_at (x : Vec Ideal S96x4608 .bf16) (w : Vec Ideal S4608x9216 .fp8e4m3) (s : Vec Ideal S1x9216 .f32) (r : Fin 96) (q : Fin 4608) :
    ReferenceIdeal.Body.hRows x w s (ix2 (n0 := 96) (n1 := 4608) r q)
      = glu (lin (ReferenceIdeal.Body.xCodes x) (ReferenceIdeal.Body.xScales x) r (fun k => w (ix2 k (⟨q.val, by omega⟩ : Fin 9216))) (s (ix2 (0 : Fin 1) (⟨q.val, by omega⟩ : Fin 9216))))
          (lin (ReferenceIdeal.Body.xCodes x) (ReferenceIdeal.Body.xScales x) r (fun k => w (ix2 k (⟨4608 + q.val, by omega⟩ : Fin 9216)))
            (s (ix2 (0 : Fin 1) (⟨4608 + q.val, by omega⟩ : Fin 9216)))) := by
  have e : ReferenceIdeal.Body.hRows x w s
      = vglu (extractStridedSlice S96x4608 ![0, 0] (vlin 9216 (ReferenceIdeal.Body.xCodes x) (ReferenceIdeal.Body.xScales x) w s
            ReferenceIdeal.Gen.broadcasts_S96x1_S96x9216 ReferenceIdeal.Gen.broadcasts_S1x9216_S96x9216) ReferenceIdeal.Gen.slices_S96x9216_o0_0_S96x4608)
          (extractStridedSlice S96x4608 ![0, 4608] (vlin 9216 (ReferenceIdeal.Body.xCodes x) (ReferenceIdeal.Body.xScales x) w s
            ReferenceIdeal.Gen.broadcasts_S96x1_S96x9216 ReferenceIdeal.Gen.broadcasts_S1x9216_S96x9216) ReferenceIdeal.Gen.slices_S96x9216_o0_4608_S96x4608) := by
    unfold ReferenceIdeal.Body.hRows ReferenceIdeal.Gen.k0_pay6 ReferenceIdeal.Body.xCodes ReferenceIdeal.Body.xScales
    unfold vglu vlin
    simp only [shapeCast_self]
    rfl
  rw [e, vglu_at]
  rw [extractStridedSlice_apply ![0, 0] _ _ (ix2 (n0 := 96) (n1 := 4608) r q) (ix2 (n0 := 96) (n1 := 9216) r ⟨q.val, by omega⟩) (fun a => by
      match a with
      | ⟨0, _⟩ => exact (Nat.zero_add _).symm
      | ⟨1, _⟩ => exact (Nat.zero_add _).symm)]
  rw [extractStridedSlice_apply ![0, 4608] _ _ (ix2 (n0 := 96) (n1 := 4608) r q) (ix2 (n0 := 96) (n1 := 9216) r ⟨4608 + q.val, by omega⟩) (fun a => by
      match a with
      | ⟨0, _⟩ => exact (Nat.zero_add _).symm
      | ⟨1, _⟩ => rfl)]
  rw [vlin_at, vlin_at]

/-! ## The kernel's rows are the reference's -/

variable (m : (ℓ : Loc nD τ sig) → Buf (Elt Ideal) ℓ) (c : Dev nD)

theorem XC_eq : KernelIdeal.Body.XC m c = ReferenceIdeal.Body.xCodes (KernelIdeal.Body.xIn m c) := by
  unfold KernelIdeal.Body.XC
  rw [KernelIdeal.Body.iblk0, QuantVec.xCodes_eq_ref]

theorem XS_eq : KernelIdeal.Body.XS m c = ReferenceIdeal.Body.xScales (KernelIdeal.Body.xIn m c) := by
  unfold KernelIdeal.Body.XS
  rw [KernelIdeal.Body.iblk0, QuantVec.xScales_eq]

theorem H_eq : ReferenceIdeal.Body.hRows (KernelIdeal.Body.xIn m c) (KernelIdeal.Body.wIn m c) (KernelIdeal.Body.sIn m c) = KernelIdeal.Body.H m c := by
  funext y
  obtain ⟨r, q, rfl⟩ : ∃ (r : Fin 96) (q : Fin 4608), y = ix2 (n0 := 96) (n1 := 4608) r q := ⟨y 0, y 1, eq_ix2 y⟩
  rw [hRows_at]
  show _ = KernelIdeal.Body.HB m c (KernelIdeal.Body.ptOf q) (ix2 (n0 := 96) (n1 := 512) r (KernelIdeal.Body.colOf q))
  unfold KernelIdeal.Body.HB
  rw [hBlock_at, XC_eq, XS_eq]
  have hq : 512 * (KernelIdeal.Body.ptOf q).val + (KernelIdeal.Body.colOf q).val = q.val := Nat.div_add_mod q.val 512
  have hq' : 4608 + 512 * (KernelIdeal.Body.ptOf q).val + (KernelIdeal.Body.colOf q).val = 4608 + q.val := by omega
  refine congrArg₂ glu (congrArg₂ (lin _ _ r) (funext fun k => ?_) ?_) (congrArg₂ (lin _ _ r) (funext fun k => ?_) ?_)
  · exact ((KernelIdeal.Body.iblk1 m c _ (ix2 (n0 := 4608) (n1 := 512) k (KernelIdeal.Body.colOf q))).trans
      (congrArg (fun z => KernelIdeal.Body.wIn m c (ix2 (n0 := 4608) (n1 := 9216) k z)) (Fin.ext hq))).symm
  · exact ((KernelIdeal.Body.iblk3 m c _ (ix2 (n0 := 1) (n1 := 512) 0 (KernelIdeal.Body.colOf q))).trans
      (congrArg (fun z => KernelIdeal.Body.sIn m c (ix2 (n0 := 1) (n1 := 9216) 0 z)) (Fin.ext hq))).symm
  · exact ((KernelIdeal.Body.iblk2 m c _ (ix2 (n0 := 4608) (n1 := 512) k (KernelIdeal.Body.colOf q))).trans
      (congrArg (fun z => KernelIdeal.Body.wIn m c (ix2 (n0 := 4608) (n1 := 9216) k z)) (Fin.ext hq'))).symm
  · exact ((KernelIdeal.Body.iblk4 m c _ (ix2 (n0 := 1) (n1 := 512) 0 (KernelIdeal.Body.colOf q))).trans
      (congrArg (fun z => KernelIdeal.Body.sIn m c (ix2 (n0 := 1) (n1 := 9216) 0 z)) (Fin.ext hq'))).symm

/-! ## The four results -/

variable (m' : (ℓ : Loc ReferenceIdeal.nD ReferenceIdeal.τ ReferenceIdeal.sig) → Buf (Elt Ideal) ℓ)

/-- The two programs' arguments agree on the device `c`. -/
def Agree : Prop :=
  m' ((c.tc : Thread ReferenceIdeal.nD ReferenceIdeal.τ).loc ReferenceIdeal.main_arg0) = m ((c.tc : Thread nD τ).loc main_arg0)
  ∧ m' ((c.tc : Thread ReferenceIdeal.nD ReferenceIdeal.τ).loc ReferenceIdeal.main_arg1) = m ((c.tc : Thread nD τ).loc main_arg1)
  ∧ m' ((c.tc : Thread ReferenceIdeal.nD ReferenceIdeal.τ).loc ReferenceIdeal.main_arg2) = m ((c.tc : Thread nD τ).loc main_arg2)

variable {m c m'}

theorem xIn_eq (h : Agree m c m') : ReferenceIdeal.Body.xIn m' c = KernelIdeal.Body.xIn m c :=
  congrArg (fun v => shapeCast S96x4608 (v : Vec Ideal KernelIdeal.S96x1x4608 .bf16) KernelIdeal.Gen.shapeCasts_S96x1x4608_S96x4608) h.1

theorem wIn_eq (h : Agree m c m') : ReferenceIdeal.Body.wIn m' c = KernelIdeal.Body.wIn m c := h.2.1

theorem sIn_eq (h : Agree m c m') : ReferenceIdeal.Body.sIn m' c = KernelIdeal.Body.sIn m c :=
  congrArg (fun v => shapeCast S1x9216 (v : Vec Ideal KernelIdeal.S9216 .f32) KernelIdeal.Gen.shapeCasts_S9216_S1x9216) h.2.2

theorem result0 (h : Agree m c m') : ReferenceIdeal.Body.result0 m' c = KernelIdeal.Body.result0 m c := by
  show ReferenceIdeal.Body.hScales (ReferenceIdeal.Body.xIn m' c) (ReferenceIdeal.Body.wIn m' c) (ReferenceIdeal.Body.sIn m' c) = KernelIdeal.Body.hScales (KernelIdeal.Body.H m c)
  rw [xIn_eq h, wIn_eq h, sIn_eq h]
  exact (QuantVec.hScales_eq _ _ _ _ (H_eq m c)).symm

theorem result1 (h : Agree m c m') : ReferenceIdeal.Body.result1 m' c = KernelIdeal.Body.result1 m c := by
  show ReferenceIdeal.Body.hCodes (ReferenceIdeal.Body.xIn m' c) (ReferenceIdeal.Body.wIn m' c) (ReferenceIdeal.Body.sIn m' c) = KernelIdeal.Body.hCodes (KernelIdeal.Body.H m c)
  rw [xIn_eq h, wIn_eq h, sIn_eq h]
  exact (QuantVec.hCodes_eq_ref _ _ _ _ (H_eq m c)).symm

theorem result2 (h : Agree m c m') : ReferenceIdeal.Body.result2 m' c = KernelIdeal.Body.result2 m c := by
  show ReferenceIdeal.Body.xCodes (ReferenceIdeal.Body.xIn m' c) = KernelIdeal.Body.XC m c
  rw [xIn_eq h, XC_eq]

theorem result3 (h : Agree m c m') : ReferenceIdeal.Body.result3 m' c = KernelIdeal.Body.result3 m c := by
  show ReferenceIdeal.Body.xScales (ReferenceIdeal.Body.xIn m' c) = KernelIdeal.Body.XS m c
  rw [xIn_eq h, XS_eq]

end Cert.Equation

end
-- ==== Proof.lean ====
/-
  The proof of the claim: the frames of the three programs, and the equality of the four results at the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.SL.Sem Cert.Kernel

theorem algebraic : Cert.algebraic_KernelIdeal_ReferenceIdeal (hKernelIdeal := Cert.KernelIdeal.Gen.facts) (hReferenceIdeal := Cert.ReferenceIdeal.Gen.facts) := by
  intro m g m' g' _ hargs
  refine ⟨Cert.KernelIdeal.Body.result0 m, Cert.KernelIdeal.Body.result1 m, Cert.KernelIdeal.Body.result2 m, Cert.KernelIdeal.Body.result3 m, ?_, ?_⟩
  · exact (θ_run _ _ _).mono (fun _ h => h.1) (Cert.KernelIdeal.Body.run m g)
  · refine (θ_run _ _ _).mono (fun r h c => ?_) (Cert.ReferenceIdeal.Body.run m' g')
    have ha : Cert.Equation.Agree m c m' := hargs c
    obtain ⟨h0, h1, h2, h3, h4⟩ := h c
    exact ⟨h0.trans (Cert.Equation.result0 ha), h1.trans (Cert.Equation.result1 ha), h2.trans (Cert.Equation.result2 ha), h3.trans (Cert.Equation.result3 ha), h4⟩

theorem claim : Cert.Claim := ⟨Cert.Kernel.Gen.facts, Cert.KernelIdeal.Gen.facts, Cert.ReferenceIdeal.Gen.facts,
  fun m g _ => Cert.KernelFrame.frame m g, fun m g _ => Cert.KernelFrame.frame_ideal m g, fun m g _ => Cert.ReferenceIdeal.Gen.frame m g, trivial, algebraic⟩

end Cert.Proof

end
